-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "neg_16_log_two_pi" .f32 0xC1EB3F8E#32 ((-(16 * (Real.log (13176795 / 2097152))) : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S32768x32 : Shape := ⟨2, ![32768, 32]⟩
abbrev S17 : Shape := ⟨1, ![17]⟩
abbrev S16x32 : Shape := ⟨2, ![16, 32]⟩
abbrev S16 : Shape := ⟨1, ![16]⟩
abbrev S16x16 : Shape := ⟨2, ![16, 16]⟩
abbrev S16x200 : Shape := ⟨2, ![16, 200]⟩
abbrev S_ : Shape := ⟨0, ![]⟩

class Facts : Prop where
  bcast_S_S16x32 : S_.BroadcastsInDim S16x32 (![] : Fin 0 → Fin S16x32.rank)
  reducesTo_S16x32_S_d0_1 : S16x32.ReducesTo [0, 1] S_
  h_S_ : 0 < S_.numel

variable [Facts]

def fn {F : FTy → Type} [FloatOps F] (main_arg0 : FVec F S32768x32 .f32) (main_arg1 : IVec S17 32) (main_arg2 : FVec F S16x32 .f32) (main_arg3 : FVec F S16x32 .f32) (main_arg4 : FVec F S16 .f32) (main_arg5 : FVec F S16x16 .f32) (main_arg6 : FVec F S16x200 .f32) : IVec S_ 1 :=
  let main_v0 : FVec F S16x32 .f32 := Host.absf main_arg3
  let main_cst : FVec F S_ .f32 := constant S_ .f32 0x7F800000#32
  let main_v1 : FVec F S16x32 .f32 := broadcastInDim S16x32 ![] bcast_S_S16x32 main_cst
  let main_v2 : IVec S16x32 1 := cmpf .olt main_v0 main_v1
  let main_c : IVec S_ 1 := constantI S_ 1 1#1
  let main_v3 : IVec S_ 1 := (fun x v => Host.reduce IntOp.andi x v reducesTo_S16x32_S_d0_1 h_S_) main_v2 main_c
  main_v3
-- ==== Kernel.lean ====
abbrev S32768x32 : Shape := ⟨2, ![32768, 32]⟩
abbrev S17 : Shape := ⟨1, ![17]⟩
abbrev S16x32 : Shape := ⟨2, ![16, 32]⟩
abbrev S16 : Shape := ⟨1, ![16]⟩
abbrev S16x16 : Shape := ⟨2, ![16, 16]⟩
abbrev S16x200 : Shape := ⟨2, ![16, 200]⟩
abbrev S1048576 : Shape := ⟨1, ![1048576]⟩
abbrev S32x16 : Shape := ⟨2, ![32, 16]⟩
abbrev S512 : Shape := ⟨1, ![512]⟩
abbrev S524288 : Shape := ⟨1, ![524288]⟩
abbrev S32768 : Shape := ⟨1, ![32768]⟩
abbrev S16384 : Shape := ⟨1, ![16384]⟩
abbrev S_ : Shape := ⟨0, ![]⟩
abbrev S1 : Shape := ⟨1, ![1]⟩
abbrev S32768x16 : Shape := ⟨2, ![32768, 16]⟩

abbrev nBuf : Table → Nat
  | .hbm => 14
  | .local .scVector .vmem => 4
  | _ => 0

abbrev bufTy : (tb : Table) → Fin (nBuf tb) → BufTy
  | .hbm, ⟨0, _⟩ => ⟨S32768x32, .f32⟩
  | .hbm, ⟨1, _⟩ => ⟨S17, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S16x16, .f32⟩
  | .hbm, ⟨6, _⟩ => ⟨S16x200, .f32⟩
  | .hbm, ⟨7, _⟩ => ⟨S1048576, .f32⟩
  | .hbm, ⟨8, _⟩ => ⟨S32x16, .f32⟩
  | .hbm, ⟨9, _⟩ => ⟨S512, .f32⟩
  | .hbm, ⟨10, _⟩ => ⟨S32x16, .f32⟩
  | .hbm, ⟨11, _⟩ => ⟨S512, .f32⟩
  | .hbm, ⟨12, _⟩ => ⟨S524288, .f32⟩
  | .hbm, ⟨13, _⟩ => ⟨S32768x16, .f32⟩
  | .local .scVector .vmem, ⟨0, _⟩ => ⟨S32768, .f32⟩
  | .local .scVector .vmem, ⟨1, _⟩ => ⟨S16384, .f32⟩
  | .local .scVector .vmem, ⟨2, _⟩ => ⟨S512, .f32⟩
  | .local .scVector .vmem, ⟨3, _⟩ => ⟨S512, .f32⟩
  | _, _ => ⟨S32768x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v0_scv : Ref sig .scVector := ⟨.hbm, 7, rfl⟩
abbrev main_v2_scv : Ref sig .scVector := ⟨.hbm, 9, rfl⟩
abbrev main_v4_scv : Ref sig .scVector := ⟨.hbm, 11, rfl⟩
abbrev main_v5_scv : Ref sig .scVector := ⟨.hbm, 12, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c32_i32 : BitVec 32 := 32#32
  let v3 : BitVec 32 := Scalar.muli v2 c32_i32
  ![v3.toNat]
@[reducible] def k0_t1_loop : Scf.Loop 32 :=
  let c0_i32_192 : BitVec 32 := 0#32
  let c1024_i32_193 : BitVec 32 := 1024#32
  let v709 : BitVec 32 := Scalar.addi c0_i32_192 c1024_i32_193
  let c1_i32 : BitVec 32 := 1#32
  ⟨c0_i32_192, v709, c1_i32⟩
def k0_off2 (k0_t1 : Fin k0_t1_loop.trips) : Fin 1 → Nat :=
  let c0_i32_192 : BitVec 32 := 0#32
  let c1_i32 : BitVec 32 := 1#32
  let arg10 : BitVec 32 := Scf.iv c0_i32_192 c1_i32 k0_t1
  let c32_i32_195 : BitVec 32 := 32#32
  let v712 : BitVec 32 := Scalar.muli arg10 c32_i32_195
  let v713 : Index := Scalar.indexCast v712
  ![v713.toNat]
def k0_off3 (k0_t1 : Fin k0_t1_loop.trips) : Fin 1 → Nat :=
  let c0_i32_192 : BitVec 32 := 0#32
  let c1_i32 : BitVec 32 := 1#32
  let arg10 : BitVec 32 := Scf.iv c0_i32_192 c1_i32 k0_t1
  let c32_i32_196 : BitVec 32 := 32#32
  let v716 : BitVec 32 := Scalar.muli arg10 c32_i32_196
  let c16_i32_197 : BitVec 32 := 16#32
  let v717 : BitVec 32 := Scalar.addi v716 c16_i32_197
  let v718 : Index := Scalar.indexCast v717
  ![v718.toNat]
def k0_off4 (k0_t1 : Fin k0_t1_loop.trips) : Fin 1 → Nat :=
  let c0_i32_192 : BitVec 32 := 0#32
  let c1_i32 : BitVec 32 := 1#32
  let arg10 : BitVec 32 := Scf.iv c0_i32_192 c1_i32 k0_t1
  let c16_i32_262 : BitVec 32 := 16#32
  let v1137 : BitVec 32 := Scalar.muli arg10 c16_i32_262
  let v1138 : Index := Scalar.indexCast v1137
  ![v1138.toNat]
def k0_off5 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1024_i32 : BitVec 32 := 1024#32
  let v2 : BitVec 32 := Scalar.muli v1 c1024_i32
  let c16_i32 : BitVec 32 := 16#32
  let v711 : BitVec 32 := Scalar.muli v2 c16_i32
  ![v711.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "neg_16_log_two_pi" => some ((-(16 * (Real.log (13176795 / 2097152))) : ℝ) : EReal)
  | _ => none
-- ==== ReferenceIdeal.lean ====
abbrev S32768x32 : Shape := ⟨2, ![32768, 32]⟩
abbrev S17 : Shape := ⟨1, ![17]⟩
abbrev S16x32 : Shape := ⟨2, ![16, 32]⟩
abbrev S16 : Shape := ⟨1, ![16]⟩
abbrev S16x16 : Shape := ⟨2, ![16, 16]⟩
abbrev S16x200 : Shape := ⟨2, ![16, 200]⟩
abbrev S32768x1x32 : Shape := ⟨3, ![32768, 1, 32]⟩
abbrev S1x16x32 : Shape := ⟨3, ![1, 16, 32]⟩
abbrev S32768x16x32 : Shape := ⟨3, ![32768, 16, 32]⟩
abbrev S_ : Shape := ⟨0, ![]⟩
abbrev S32768x16 : Shape := ⟨2, ![32768, 16]⟩

abbrev nBuf : Space → Nat
  | .hbm => 32
  | .vmem => 0
  | .smem => 0
  | _ => 0

abbrev bufTy : (tb : Table) → Fin (tcTables nBuf tb) → BufTy
  | .hbm, ⟨0, _⟩ => ⟨S32768x32, .f32⟩
  | .hbm, ⟨1, _⟩ => ⟨S17, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S16x16, .f32⟩
  | .hbm, ⟨6, _⟩ => ⟨S16x200, .f32⟩
  | .hbm, ⟨7, _⟩ => ⟨S32768x1x32, .f32⟩
  | .hbm, ⟨8, _⟩ => ⟨S1x16x32, .f32⟩
  | .hbm, ⟨9, _⟩ => ⟨S1x16x32, .f32⟩
  | .hbm, ⟨10, _⟩ => ⟨S32768x16x32, .f32⟩
  | .hbm, ⟨11, _⟩ => ⟨S32768x16x32, .f32⟩
  | .hbm, ⟨12, _⟩ => ⟨S32768x16x32, .f32⟩
  | .hbm, ⟨13, _⟩ => ⟨S1x16x32, .f32⟩
  | .hbm, ⟨14, _⟩ => ⟨S1x16x32, .f32⟩
  | .hbm, ⟨15, _⟩ => ⟨S32768x16x32, .f32⟩
  | .hbm, ⟨16, _⟩ => ⟨S32768x16x32, .f32⟩
  | .hbm, ⟨17, _⟩ => ⟨S_, .f32⟩
  | .hbm, ⟨18, _⟩ => ⟨S32768x16x32, .f32⟩
  | .hbm, ⟨19, _⟩ => ⟨S32768x16x32, .f32⟩
  | .hbm, ⟨20, _⟩ => ⟨S32768x16x32, .f32⟩
  | .hbm, ⟨21, _⟩ => ⟨S32768x16x32, .f32⟩
  | .hbm, ⟨22, _⟩ => ⟨S32768x16x32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S32768x16x32, .f32⟩
  | .hbm, ⟨29, _⟩ => ⟨S32768x16x32, .f32⟩
  | .hbm, ⟨30, _⟩ => ⟨S_, .f32⟩
  | .hbm, ⟨31, _⟩ => ⟨S32768x16, .f32⟩
  | _, _ => ⟨S32768x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Proof.KI.Setup.lean ====
/-
  The launch's set-up for the kernel program: the SparseCore configuration as the launch theorem reads it, the resource
  algebra (the handshakes' rounds beside the local transfers' counters), the arrays and the memrefs a subcore's task names.
  Everything here is stated for any float instance.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem reads it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UU : Type := UH × Counters

/-- The separation-logic model the proof runs in. -/
abbrev MM (F : FTy → Type) : Type := MT nD τ sig (HIx 1) (Elt F) ℕ UU ℕ

/-- The handshakes' rounds are the left factor; the transfers' counters are found in the right one by instance. -/
abbrev EH : Emb UH (MT nD τ sig (HIx 1) (Elt F) ℕ UU ℕ) := embL

/-! ## The arrays -/

/-- The flat observations, the flat transposed means, the flat transposed log-scales, and the call's flat output. -/
abbrev xLoc (d : Dev nD) : Loc nD τ sig := (SparseCore.T d).loc main_v0
abbrev muLoc (d : Dev nD) : Loc nD τ sig := (SparseCore.T d).loc main_v2
abbrev lsLoc (d : Dev nD) : Loc nD τ sig := (SparseCore.T d).loc main_v4
abbrev oLoc (d : Dev nD) : Loc nD τ sig := (SparseCore.T d).loc main_v5

end Cert.Proof.KernelIdeal

end
-- ==== Proof.KI.Value.lean ====
/-
  The values the kernel computes, as plain recursions over the features, and how its vector payloads read at one lane.
-/
module

public import proofs.«01_k».proof.Proof.KI.Setup

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The values -/

/-- Element `j` of a flat array: its row-major position, taken modulo the array's length so that every number names one. -/
def nth {s : Shape} {α : Type} (hs : ∀ a, 0 < s.size a) (f : s.Idx → α) (j : ℕ) : α :=
  f fun a => ⟨j % s.size a, Nat.mod_lt _ (hs a)⟩

theorem pos16 : ∀ a, 0 < S16.size a := by decide
theorem pos512 : ∀ a, 0 < S512.size a := by decide
theorem pos32768 : ∀ a, 0 < S32768.size a := by decide
theorem pos1048576 : ∀ a, 0 < S1048576.size a := by decide
theorem pos16384 : ∀ a, 0 < S16384.size a := by decide

/-- The running score of one token against one state after its first `n` features: each feature adds its linear term
    `a·x` and then its quadratic term `b·x²`. -/
def tokAt (c : F .f32) (a b x : ℕ → F .f32) : ℕ → F .f32
  | 0 => c
  | n + 1 => FloatOps.addf (FloatOps.addf (tokAt c a b x n) (FloatOps.mulf (a n) (x n))) (FloatOps.mulf (b n) (Scalar.mulf (x n) (x n)))

/-- The scores of one task's 1024 tokens, sixteen states each, from the states' constants `c`, the linear table `a`, the
    quadratic table `b` and the task's tokens `x`: element `16·t + k` is token `t`'s score for state `k`. -/
def slabOut (c : S16.Idx → F .f32) (a b : S512.Idx → F .f32) (x : S32768.Idx → F .f32) : S16384.Idx → F .f32 := fun j =>
  tokAt (nth pos16 c (j 0).val) (fun n => nth pos512 a (16 * n + (j 0).val % 16)) (fun n => nth pos512 b (16 * n + (j 0).val % 16))
    (fun n => nth pos32768 x (32 * ((j 0).val / 16) + n)) 32

/-- Lane `r` of a 16-lane vector. -/
def lane16 (r : ℕ) (hr : r < 16) : S16.Idx := fun a => ⟨r, by rw [Subsingleton.elim (α := Fin 1) a 0]; exact hr⟩

/-- A lane of a 16-lane vector by a position congruent to it. -/
theorem nth_lane (c : S16.Idx → F .f32) (j r : ℕ) (hr : r < 16) (h : j % 16 = r) : nth pos16 c j = c (lane16 r hr) := by
  refine congrArg c (funext fun a => Fin.ext ?_)
  have ha : a = (0 : Fin 1) := Subsingleton.elim (α := Fin 1) _ _
  subst ha
  exact h

/-- The kernel's constant, `-16·log(2π)`. -/
def c0 : F .f32 := Named.named κ "neg_16_log_two_pi" 0xC1EB3F8E#32

/-- The inverse variance from a log-scale: `exp(-2·l)`. -/
def ivAt (l : F .f32) : F .f32 := FloatOps.exp (FloatOps.mulf (Scalar.ofBits .f32 0xC0000000#32) l)

/-- The table of the linear terms, mean times inverse variance. -/
def muTab (fm fl : S512.Idx → F .f32) : S512.Idx → F .f32 := fun j => FloatOps.mulf (fm j) (ivAt (fl j))

/-- The table of the quadratic terms, minus half the inverse variance. -/
def lsTab (fl : S512.Idx → F .f32) : S512.Idx → F .f32 := fun j => FloatOps.mulf (Scalar.ofBits .f32 0xBF000000#32) (ivAt (fl j))

/-- A state's constant after its first `n` features: from the kernel's constant, each feature takes away half its squared mean
    over its variance and then its log-scale. -/
def cAt (m l : ℕ → F .f32) : ℕ → F .f32
  | 0 => c0
  | n + 1 => FloatOps.subf (FloatOps.subf (cAt m l n)
      (FloatOps.mulf (FloatOps.mulf (FloatOps.mulf (Scalar.ofBits .f32 0x3F000000#32) (m n)) (m n)) (ivAt (l n)))) (l n)

/-- The sixteen states' constants from the flat feature-major tables. -/
def cTab (fm fl : S512.Idx → F .f32) : S16.Idx → F .f32 := fun y =>
  cAt (fun n => nth pos512 fm (16 * n + (y 0).val)) (fun n => nth pos512 fl (16 * n + (y 0).val)) 32

/-- The scores of all tokens, from the flat tokens `x` and the flat feature-major tables `fm` and `fl`: element `16·t + k` is
    token `t`'s score for state `k`. -/
def scores (x : S1048576.Idx → F .f32) (fm fl : S512.Idx → F .f32) : S524288.Idx → F .f32 := fun i =>
  tokAt (nth pos16 (cTab fm fl) (i 0).val) (fun n => nth pos512 (muTab fm fl) (16 * n + (i 0).val % 16))
    (fun n => nth pos512 (lsTab fl) (16 * n + (i 0).val % 16)) (fun n => nth pos1048576 x (32 * ((i 0).val / 16) + n)) 32

/-- The score reads only the features it has gone through. -/
theorem tokAt_congr (c : F .f32) (a b x x' : ℕ → F .f32) : ∀ N, (∀ n < N, x n = x' n) → tokAt c a b x N = tokAt c a b x' N
  | 0, _ => rfl
  | N + 1, h => by
    unfold tokAt
    rw [tokAt_congr c a b x x' N fun n hn => h n (by omega), h N (by omega)]

/-! ## One lane of a load -/

/-- Sixteen lanes loaded from the first scratch table are its elements from the load's offset on. -/
theorem load_mu (f : S512.Idx → F .f32) (off : ℕ) (h) :
    View.readAt (Elt F) (View.whole cc0_scratch2) (Rect.unit (s := S512) ![off] ![16] h).toLoadRect f
      = fun y : S16.Idx => nth pos512 f (off + (y 0).val) := by
  funext y
  refine congrArg f (funext fun a => Fin.ext ?_)
  have ha : a = (0 : Fin 1) := Subsingleton.elim (α := Fin 1) _ _
  subst ha
  have h16 : (y 0).val < 16 := (y 0).isLt
  have h0 : off + 16 ≤ 512 := h 0
  show off + 1 * (y 0).val = (off + (y 0).val) % 512
  omega

/-- The same of the second scratch table. -/
theorem load_ls (f : S512.Idx → F .f32) (off : ℕ) (h) :
    View.readAt (Elt F) (View.whole cc0_scratch3) (Rect.unit (s := S512) ![off] ![16] h).toLoadRect f
      = fun y : S16.Idx => nth pos512 f (off + (y 0).val) :=
  load_mu f off h

/-- The same of the scratch tokens. -/
theorem load_x (f : S32768.Idx → F .f32) (off : Fin 1 → ℕ) (h) :
    View.readAt (Elt F) (View.whole cc0_scratch0) (Rect.unit (s := S32768) off ![16] h).toLoadRect f
      = fun y : S16.Idx => nth pos32768 f (off 0 + (y 0).val) := by
  funext y
  refine congrArg f (funext fun a => Fin.ext ?_)
  have ha : a = (0 : Fin 1) := Subsingleton.elim (α := Fin 1) _ _
  subst ha
  have h16 : (y 0).val < 16 := (y 0).isLt
  have h0 : off 0 + 16 ≤ 32768 := h 0
  show off 0 + 1 * (y 0).val = (off 0 + (y 0).val) % 32768
  omega

/-- Sixteen consecutive elements from `off`, by their place in the whole array. -/
theorem nth_emb (f : S512.Idx → F .f32) (off : ℕ) (h) (x : S16.Idx) :
    nth pos512 f (off + (x 0).val) = f ((Rect.unit (s := S512) ![off] ![16] h).emb x) :=
  (congrFun (load_mu f off h) x).symm

/-- One rewritten piece of the first table is the linear terms there. -/
theorem piece_mu (fm fl : S512.Idx → F .f32) (off : ℕ) (h) (x : S16.Idx) :
    mulf (fun y : S16.Idx => nth pos512 fm (off + (y 0).val))
        (exp (mulf (broadcast S16 (Scalar.ofBits .f32 0xC0000000#32)) (fun y : S16.Idx => nth pos512 fl (off + (y 0).val)))) x
      = muTab fm fl ((Rect.unit (s := S512) ![off] ![16] h).emb x) := by
  unfold muTab ivAt
  rw [← nth_emb fm off h x, ← nth_emb fl off h x]
  rfl

/-- One rewritten piece of the second table is the quadratic terms there. -/
theorem piece_ls (fl : S512.Idx → F .f32) (off : ℕ) (h) (x : S16.Idx) :
    mulf (broadcast S16 (Scalar.ofBits .f32 0xBF000000#32))
        (exp (mulf (broadcast S16 (Scalar.ofBits .f32 0xC0000000#32)) (fun y : S16.Idx => nth pos512 fl (off + (y 0).val)))) x
      = lsTab fl ((Rect.unit (s := S512) ![off] ![16] h).emb x) := by
  unfold lsTab ivAt
  rw [← nth_emb fl off h x]
  rfl

/-- A scratch table written in pieces that tile it, each piece the table's values there, holds the table. -/
theorem tab8_of_pieces (g : S512.Idx → F .f32) (f : S512.Idx → F .f32)
    (L : List (View.Piece (Elt F) S512 .f32)) (ht : View.Piece.tiled L ![16] = true)
    (hp : ∀ p ∈ L, ∀ x : p.1.shape.Idx, p.2 x = g (p.1.emb x)) :
    (View.whole cc0_scratch2).writes (Elt F) f L = g :=
  funext fun j => View.read_writes_apply_of_pieces (Val := Elt F) (View.whole cc0_scratch2) f g L hp j (View.cover_of_tiled L ![16] ht j)

/-- A scratch table written in pieces that tile it, each piece the table's values there, holds the table. -/
theorem tab9_of_pieces (g : S512.Idx → F .f32) (f : S512.Idx → F .f32)
    (L : List (View.Piece (Elt F) S512 .f32)) (ht : View.Piece.tiled L ![16] = true)
    (hp : ∀ p ∈ L, ∀ x : p.1.shape.Idx, p.2 x = g (p.1.emb x)) :
    (View.whole cc0_scratch3).writes (Elt F) f L = g :=
  funext fun j => View.read_writes_apply_of_pieces (Val := Elt F) (View.whole cc0_scratch3) f g L hp j (View.cover_of_tiled L ![16] ht j)

/-- One lane of a 16-lane vector, taken out as a scalar. -/
theorem lane_x {s : Shape} (hs : ∀ a, 0 < s.size a) (f : s.Idx → F .f32) (o j : ℕ) (h) (h') :
    extractAt (s := S1) ![0] (extractStridedSlice (s := S16) S1 ![j] (fun y => nth hs f (o + (y 0).val)) h) h' = nth hs f (o + j) := rfl

/-- A token's features start at thirty-two times its number, its second sixteen sixteen further. -/
theorem off2_zero (k : Fin k0_t1_loop.trips) : k0_off2 k 0 = 32 * k.val := congrFun (k0_off2_eq k) 0
theorem off3_zero (k : Fin k0_t1_loop.trips) : k0_off3 k 0 = 32 * k.val + 16 := congrFun (k0_off3_eq k) 0

end Cert.Proof.KernelIdeal

end
-- ==== Proof.KI.Trip.lean ====
/-
  One trip of the token loop.
-/
module

public import proofs.«01_k».proof.Proof.KI.Value
public import Idealize.ShloMosaic.Lib.Pipeline.Value

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xW" => (Memref.whole Cert.KernelIdeal.main_v0_scv : Memref Cert.KernelIdeal.sig Kind.scVector Space.hbm Cert.KernelIdeal.S1048576 EltTy.f32)
local notation "muW" => (Memref.whole Cert.KernelIdeal.main_v2_scv : Memref Cert.KernelIdeal.sig Kind.scVector Space.hbm Cert.KernelIdeal.S512 EltTy.f32)
local notation "lsW" => (Memref.whole Cert.KernelIdeal.main_v4_scv : Memref Cert.KernelIdeal.sig Kind.scVector Space.hbm Cert.KernelIdeal.S512 EltTy.f32)
local notation "oW" => (Memref.whole Cert.KernelIdeal.main_v5_scv : Memref Cert.KernelIdeal.sig Kind.scVector Space.hbm Cert.KernelIdeal.S524288 EltTy.f32)
local notation "xV" => (Memref.whole Cert.KernelIdeal.cc0_scratch0 : Memref Cert.KernelIdeal.sig Kind.scVector Space.vmem Cert.KernelIdeal.S32768 EltTy.f32)
local notation "oV" => (Memref.whole Cert.KernelIdeal.cc0_scratch1 : Memref Cert.KernelIdeal.sig Kind.scVector Space.vmem Cert.KernelIdeal.S16384 EltTy.f32)
local notation "muV" => (Memref.whole Cert.KernelIdeal.cc0_scratch2 : Memref Cert.KernelIdeal.sig Kind.scVector Space.vmem Cert.KernelIdeal.S512 EltTy.f32)
local notation "lsV" => (Memref.whole Cert.KernelIdeal.cc0_scratch3 : Memref Cert.KernelIdeal.sig Kind.scVector Space.vmem Cert.KernelIdeal.S512 EltTy.f32)

variable (d : Dev nD) (L : grid0.Coords)

abbrev cV (L : grid0.Coords) : Fin τ.nSC := (L 0).castLE hcore0
abbrev jV (L : grid0.Coords) : Fin τ.nSub := (L 1).castLE hsub0

/-- What holds after `n` trips of the token loop: the tokens and the two tables are as they were, and the first `n` rows of
    the output scratch hold their tokens' scores. -/
def rowsDone (c : S16.Idx → F .f32) (f6 : S32768.Idx → F .f32) (f8 f9 : S512.Idx → F .f32) (n : ℕ) : sProp 𝕄 :=
  iprop(((xV).view.loc (V d (cV L) (jV L)) ↦{fullShare} f6)
    ∗ (∃ g : Buf (Elt F) ((oV).view.loc (V d (cV L) (jV L))), ⌜∀ j : S16384.Idx, (j 0).val < 16 * n → g j = slabOut c f8 f9 f6 j⌝
      ∗ ((oV).view.loc (V d (cV L) (jV L)) ↦{fullShare} g))
    ∗ ((muV).view.loc (V d (cV L) (jV L)) ↦{fullShare} f8) ∗ ((lsV).view.loc (V d (cV L) (jV L)) ↦{fullShare} f9))

set_option maxRecDepth 16384 in
/-- One trip of the token loop writes one more row. -/
theorem trip_run (v655 v666 v668 v670 : FVec F S16 .f32) (v687 v689 : Vec F S16 .f32) (k : Fin k0_t1_loop.trips) (acc : BitVec 32)
    (f6 : S32768.Idx → F .f32) (f8 f9 : S512.Idx → F .f32) :
    rowsDone d L (k0_pay202 v655 v666 v668 v670 v687 v689) f6 f8 f9 k.val
      ⊢ wp frame (wpE (defs₀ (F := F)) 𝒱₀ (V d (cV L) (jV L)) none) Set.univ
          (k0_t1_body L xW (Memref.isWhole_whole _) muW (Memref.isWhole_whole _) lsW (Memref.isWhole_whole _) oW (Memref.isWhole_whole _)
            xV (Memref.isWhole_whole _) oV (Memref.isWhole_whole _) muV (Memref.isWhole_whole _) lsV (Memref.isWhole_whole _)
            cc0_scoped0 cc0_scoped1 cc0_scoped2 cc0_scoped3 v655 v666 v668 v670 v687 v689 k acc) fun _ =>
        rowsDone d L (k0_pay202 v655 v666 v668 v670 v687 v689) f6 f8 f9 (k.val + 1) := by
  unfold k0_t1_body
  rw [k0_part1_eq_skeleton, k0_part2_eq_skeleton, k0_part3_eq_skeleton, k0_part4_eq_skeleton, k0_part5_eq_skeleton, k0_part6_eq_skeleton, k0_part7_eq_skeleton, k0_part8_eq_skeleton]
  unfold rowsDone
  iintro ⟨H6, ⟨%f7, %hf7, H7⟩, H8, H9⟩
  sl_exec
  have hv : ∀ y : S16.Idx, k0_pay205 (trip_run.sl.r_16 v655 v666 v668 v670 v687 v689 k f6 f8 f9) (trip_run.sl.r_17 k f6)
      (View.readAt (Elt F) (muV).view (Rect.unit (s := S512) ![496] S16.size inb_S512_S16_496).toLoadRect f8)
      (View.readAt (Elt F) (lsV).view (Rect.unit (s := S512) ![496] S16.size inb_S512_S16_496).toLoadRect f9) y
      = tokAt (k0_pay202 v655 v666 v668 v670 v687 v689 y) (fun n => nth pos512 f8 (16 * n + (y 0).val))
          (fun n => nth pos512 f9 (16 * n + (y 0).val)) (fun n => nth pos32768 f6 (32 * k.val + n)) 32 := by
    intro y
    sl_unfold_run_names
    simp only [load_mu, load_ls, load_x]
    unfold k0_pay205 k0_pay18 k0_pay17 k0_pay16 k0_pay15 k0_pay14 k0_pay13 k0_pay12 k0_pay11 k0_pay10 k0_pay9 k0_pay8 k0_pay7 k0_pay6 k0_pay5 k0_pay4 k0_pay3 k0_pay2 k0_pay1
    simp only [shapeCast_self, lane_x, off2_zero, off3_zero, Nat.add_assoc, Nat.reduceAdd]
    rfl
  sl_step
  isplitl [H6]; · iexact H6
  isplitl [H7]
  · iexists _; isplitr
    rotate_left
    · iexact H7
    · ipureintro
      intro j hj
      by_cases hlt : (j 0).val < 16 * k.val
      · rw [← hf7 j hlt]
        exact View.read_writes_cons_miss_of_axis (View.whole cc0_scratch1) f7 _ [] j 0 (16 * k.val) 16 (congrFun (k0_off4_eq k) 0) rfl rfl (.inl hlt)
      · have hx : (j 0).val - 16 * k.val < 16 := by omega
        refine (View.read_writes_cons_hit_of_coords (View.whole cc0_scratch1) f7 _ _ [] (lane16 ((j 0).val - 16 * k.val) hx) j ?_).trans ((hv _).trans ?_)
        · intro a
          have ha : a = (0 : Fin 1) := Subsingleton.elim (α := Fin 1) _ _
          subst ha
          show (j 0).val = k0_off4 k 0 + 1 * ((j 0).val - 16 * k.val)
          rw [congrFun (k0_off4_eq k) 0]
          show (j 0).val = 16 * k.val + 1 * ((j 0).val - 16 * k.val)
          omega
        · have h1 : (j 0).val % 16 = (j 0).val - 16 * k.val := by omega
          have h2 : (j 0).val / 16 = k.val := by omega
          unfold slabOut
          rw [h1, h2, nth_lane _ _ _ hx h1]
          rfl
  isplitl [H8]; · iexact H8
  iexact H9

end Cert.Proof.KernelIdeal

end
-- ==== Proof.KI.Body.lean ====
/-
  One subcore's task: the slice of tokens and the two tables in, the tables rewritten in place, the token loop, the slice of
  scores out.
-/
module

public import proofs.«01_k».proof.Proof.KI.Trip

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ
local notation "xW" => (Memref.whole Cert.KernelIdeal.main_v0_scv : Memref Cert.KernelIdeal.sig Kind.scVector Space.hbm Cert.KernelIdeal.S1048576 EltTy.f32)
local notation "muW" => (Memref.whole Cert.KernelIdeal.main_v2_scv : Memref Cert.KernelIdeal.sig Kind.scVector Space.hbm Cert.KernelIdeal.S512 EltTy.f32)
local notation "lsW" => (Memref.whole Cert.KernelIdeal.main_v4_scv : Memref Cert.KernelIdeal.sig Kind.scVector Space.hbm Cert.KernelIdeal.S512 EltTy.f32)
local notation "oW" => (Memref.whole Cert.KernelIdeal.main_v5_scv : Memref Cert.KernelIdeal.sig Kind.scVector Space.hbm Cert.KernelIdeal.S524288 EltTy.f32)
local notation "xV" => (Memref.whole Cert.KernelIdeal.cc0_scratch0 : Memref Cert.KernelIdeal.sig Kind.scVector Space.vmem Cert.KernelIdeal.S32768 EltTy.f32)
local notation "oV" => (Memref.whole Cert.KernelIdeal.cc0_scratch1 : Memref Cert.KernelIdeal.sig Kind.scVector Space.vmem Cert.KernelIdeal.S16384 EltTy.f32)
local notation "muV" => (Memref.whole Cert.KernelIdeal.cc0_scratch2 : Memref Cert.KernelIdeal.sig Kind.scVector Space.vmem Cert.KernelIdeal.S512 EltTy.f32)
local notation "lsV" => (Memref.whole Cert.KernelIdeal.cc0_scratch3 : Memref Cert.KernelIdeal.sig Kind.scVector Space.vmem Cert.KernelIdeal.S512 EltTy.f32)

variable (d : Dev nD) (L : grid0.Coords)

/-- The slices of the token and score arrays the task addresses, as its body spells them. -/
abbrev xK (L : grid0.Coords) : Memref sig .scVector .hbm S32768 .f32 :=
  (xW).slice (Rect.unit (s := S1048576) (k0_off1 L) S32768.size (k0_off1_inb L)) (fun _ => rfl)
abbrev oK (L : grid0.Coords) : Memref sig .scVector .hbm S16384 .f32 :=
  (oW).slice (Rect.unit (s := S524288) (k0_off5 L) S16384.size (k0_off5_inb L)) (fun _ => rfl)

/-- The task's slab of scores, laid at its place in the whole score array, is that array there. -/
theorem slab_scores (fx : S1048576.Idx → F .f32) (fm fl : S512.Idx → F .f32) (y : S16384.Idx) :
    slabOut (cTab fm fl) (muTab fm fl) (lsTab fl) (View.read (Elt F) (xK L).view fx) y = scores fx fm fl ((oK L).view.emb y) := by
  have hy : (y 0).val < 16384 := (y 0).isLt
  have h0 : (L 0).val < 2 := (L 0).isLt
  have h1 : (L 1).val < 16 := (L 1).isLt
  have e : (((oK L).view.emb y) 0).val = 32768 * (L 1).val + 16384 * (L 0).val + (y 0).val := by
    show k0_off5 L 0 + 1 * (y 0).val = _
    rw [congrFun (k0_off5_eq L) 0]
    show 32768 * (L 1).val + 16384 * (L 0).val + 1 * (y 0).val = _
    omega
  unfold slabOut scores
  rw [e]
  have em : (32768 * (L 1).val + 16384 * (L 0).val + (y 0).val) % 16 = (y 0).val % 16 := by omega
  rw [em, nth_lane _ _ ((y 0).val % 16) (by omega) em, nth_lane _ _ ((y 0).val % 16) (by omega) rfl]
  refine tokAt_congr _ _ _ _ _ 32 fun n hn => ?_
  show fx _ = fx _
  refine congrArg fx (funext fun a => Fin.ext ?_)
  have ha : a = (0 : Fin 1) := Subsingleton.elim (α := Fin 1) _ _
  subst ha
  show k0_off1 L 0 + 1 * ((32 * ((y 0).val / 16) + n) % 32768) = (32 * ((32768 * (L 1).val + 16384 * (L 0).val + (y 0).val) / 16) + n) % 1048576
  rw [congrFun (k0_off1_eq L) 0]
  show 65536 * (L 1).val + 32768 * (L 0).val + 1 * ((32 * ((y 0).val / 16) + n) % 32768) = _
  omega

/-- A transfer of a whole scratch onto the task's slice of the score array leaves each element at its place. -/
theorem write_out (fo : S524288.Idx → F .f32) (w : S16384.Idx → F .f32) (y : S16384.Idx) :
    ((oK L).view.writes (Elt F) fo [⟨Rect.whole S16384, w⟩]) ((oK L).view.emb y) = w y := by
  have h : View.read (Elt F) (oK L).view ((oK L).view.writes (Elt F) fo [⟨Rect.whole S16384, w⟩]) y = w y := by
    refine View.read_writes_cons_hit_of_coords (Val := Elt F) (oK L).view fo (Rect.whole S16384) w [] y y ?_
    intro a
    show (y a).val = 0 + 1 * (y a).val
    rw [Nat.zero_add, Nat.one_mul]
  rw [← h, View.read_apply]
  exact (cast_eq _ _).symm

/-- What the task's write-out leaves of the score array, on its slice. -/
theorem out_scores (fx : S1048576.Idx → F .f32) (fm fl : S512.Idx → F .f32) (fo : S524288.Idx → F .f32) :
    ∀ i ∈ (oK L).view.set, (oK L).view.writes (Elt F) fo
        [⟨Rect.whole S16384, slabOut (cTab fm fl) (muTab fm fl) (lsTab fl) (View.read (Elt F) (xK L).view fx)⟩] i = scores fx fm fl i := by
  intro i hi
  obtain ⟨y, -, rfl⟩ := Finset.mem_map.mp hi
  exact (write_out L fo _ y).trans (slab_scores L fx fm fl y)

set_option maxRecDepth 16384 in
set_option maxHeartbeats 1600000 in
/-- The task, from its pieces to its pieces: the slice of the score array holds the scores. -/
theorem body_run (q : PosShare TreeShare) (O : CellTallies nD τ sig (HIx 1)) (W : Waits sig (HIx 1)) (hO : ∀ g, O g none = 0)
    (fx : S1048576.Idx → F .f32) (fm fl : S512.Idx → F .f32) (fo : S524288.Idx → F .f32)
    (f6 : S32768.Idx → F .f32) (f7 : S16384.Idx → F .f32) (f8 f9 : S512.Idx → F .f32) :
    iprop(Transfers.MayWaits (V d (cV L) (jV L)) (default : HIx 1) O
        ∗ ((xK L).view.loc (V d (cV L) (jV L)) ↦[(xK L).view.set]{fullShare} fx)
        ∗ ((muW).view.loc (V d (cV L) (jV L)) ↦{q} fm) ∗ ((lsW).view.loc (V d (cV L) (jV L)) ↦{q} fl)
        ∗ ((oK L).view.loc (V d (cV L) (jV L)) ↦[(oK L).view.set]{fullShare} fo)
        ∗ ((xV).view.loc (V d (cV L) (jV L)) ↦{fullShare} f6) ∗ ((oV).view.loc (V d (cV L) (jV L)) ↦{fullShare} f7)
        ∗ ((muV).view.loc (V d (cV L) (jV L)) ↦{fullShare} f8) ∗ ((lsV).view.loc (V d (cV L) (jV L)) ↦{fullShare} f9)
        ∗ semVal (V d (cV L) (jV L), .dma cc0_scoped0.sem) 0 ∗ semVal (V d (cV L) (jV L), .dma cc0_scoped1.sem) 0
        ∗ semVal (V d (cV L) (jV L), .dma cc0_scoped2.sem) 0 ∗ semVal (V d (cV L) (jV L), .dma cc0_scoped3.sem) 0
        ∗ owes (V d (cV L) (jV L)) O W)
      ⊢ wp frame (wpE (defs₀ (F := F)) 𝒱₀ (V d (cV L) (jV L)) none) Set.univ
          (cc0__sc_body L xW (Memref.isWhole_whole _) muW (Memref.isWhole_whole _) lsW (Memref.isWhole_whole _) oW (Memref.isWhole_whole _)
            xV (Memref.isWhole_whole _) oV (Memref.isWhole_whole _) muV (Memref.isWhole_whole _) lsV (Memref.isWhole_whole _)
            cc0_scoped0 cc0_scoped1 cc0_scoped2 cc0_scoped3) fun _ => (iprop(
        ((xK L).view.loc (V d (cV L) (jV L)) ↦[(xK L).view.set]{fullShare} fx)
        ∗ ((muW).view.loc (V d (cV L) (jV L)) ↦{q} fm) ∗ ((lsW).view.loc (V d (cV L) (jV L)) ↦{q} fl)
        ∗ ((oK L).view.loc (V d (cV L) (jV L)) ↦[(oK L).view.set]{fullShare} scores fx fm fl)
        ∗ (∃ f6, (xV).view.loc (V d (cV L) (jV L)) ↦{fullShare} f6) ∗ (∃ f7, (oV).view.loc (V d (cV L) (jV L)) ↦{fullShare} f7)
        ∗ (∃ f8, (muV).view.loc (V d (cV L) (jV L)) ↦{fullShare} f8) ∗ (∃ f9, (lsV).view.loc (V d (cV L) (jV L)) ↦{fullShare} f9)
        ∗ semVal (V d (cV L) (jV L), .dma cc0_scoped0.sem) 0 ∗ semVal (V d (cV L) (jV L), .dma cc0_scoped1.sem) 0
        ∗ semVal (V d (cV L) (jV L), .dma cc0_scoped2.sem) 0 ∗ semVal (V d (cV L) (jV L), .dma cc0_scoped3.sem) 0
        ∗ ∃ W', owes (V d (cV L) (jV L)) O W') : sProp 𝕄) := by
  rw [cc0__sc_body_eq_skeleton]; unfold cc0__sc_body_skel
  rw [k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  iintro ⟨#Hmw, Hx, Hm, Hl, Ho, H6, H7, H8, H9, HsA, HsB, HsC, HsD, HO⟩
  sl_exec (disch := exact View.amount_pos _ _ (show 0 < S32768.numel by decide))
  have e8 : (Memref.whole cc0_scratch2).view.writes (Elt F) (Memref.whole cc0_scratch2).view.junk (body_run.sl.H8_32 fm fl f8 f9) = muTab fm fl := by
    sl_unfold_run_names
    refine tab8_of_pieces _ _ _ rfl ?_
    simp only [List.forall_mem_cons, View.write_whole_univ, View.read_whole, load_mu, load_ls, shapeCast_self,
      k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111, k0_pay112,
      k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143, k0_pay144, k0_pay145,
      k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200,
      k0_pay201, k0_pay202, k0_pay203, k0_pay204]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
      <;> exact fun x => piece_mu fm fl _ _ x
  have e9 : (Memref.whole cc0_scratch3).view.writes (Elt F) (Memref.whole cc0_scratch3).view.junk (body_run.sl.H9_32 fl f9) = lsTab fl := by
    sl_unfold_run_names
    refine tab9_of_pieces _ _ _ rfl ?_
    simp only [List.forall_mem_cons, View.write_whole_univ, View.read_whole, load_ls, shapeCast_self,
      k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111, k0_pay112,
      k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143, k0_pay144, k0_pay145,
      k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200,
      k0_pay201, k0_pay202, k0_pay203, k0_pay204]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, fun _ h => absurd h List.not_mem_nil⟩
      <;> exact fun x => piece_ls fl _ _ x
  have ec : k0_pay202 (body_run.sl.r_41 fm fl f8 f9) (body_run.sl.r_42 fm f8) (body_run.sl.r_43 fl f9) (body_run.sl.r_44 fl f9) (body_run.sl.v687 fm f8) (body_run.sl.v689 fl f9) = cTab fm fl := by
    sl_unfold_run_names
    funext y
    simp only [View.write_whole_univ, View.read_whole, load_mu, load_ls, shapeCast_self,
      k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66,
      k0_pay67, k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89, k0_pay90,
      k0_pay91, k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110, k0_pay111, k0_pay112,
      k0_pay113, k0_pay114, k0_pay115, k0_pay116, k0_pay117, k0_pay118, k0_pay119, k0_pay120, k0_pay121, k0_pay122, k0_pay123,
      k0_pay124, k0_pay125, k0_pay126, k0_pay127, k0_pay128, k0_pay129, k0_pay130, k0_pay131, k0_pay132, k0_pay133, k0_pay134,
      k0_pay135, k0_pay136, k0_pay137, k0_pay138, k0_pay139, k0_pay140, k0_pay141, k0_pay142, k0_pay143, k0_pay144, k0_pay145,
      k0_pay146, k0_pay147, k0_pay148, k0_pay149, k0_pay150, k0_pay151, k0_pay152, k0_pay153, k0_pay154, k0_pay155, k0_pay156,
      k0_pay157, k0_pay158, k0_pay159, k0_pay160, k0_pay161, k0_pay162, k0_pay163, k0_pay164, k0_pay165, k0_pay166, k0_pay167,
      k0_pay168, k0_pay169, k0_pay170, k0_pay171, k0_pay172, k0_pay173, k0_pay174, k0_pay175, k0_pay176, k0_pay177, k0_pay178,
      k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200,
      k0_pay201, k0_pay202, k0_pay203, k0_pay204]
    rfl
  have e6 : View.write (Elt F) (Memref.whole cc0_scratch0).view f6 (body_run.sl.dma0 L fx) Finset.univ = View.read (Elt F) (xK L).view fx := View.write_whole_univ _ _ _
  rw [e6, e8, e9]
  sl_for (fun k _ => rowsDone d L (k0_pay202 (body_run.sl.r_41 fm fl f8 f9) (body_run.sl.r_42 fm f8) (body_run.sl.r_43 fl f9) (body_run.sl.r_44 fl f9) (body_run.sl.v687 fm f8) (body_run.sl.v689 fl f9))
    (View.read (Elt F) (xK L).view fx) (muTab fm fl) (lsTab fl) k) $$ [H6 H7 H8 H9]
  case region =>
    intro k acc
    exact trip_run d L _ _ _ _ _ _ k acc _ _ _
  · unfold rowsDone
    isplitl [H6]; · iexact H6
    isplitl [H7]
    · iexists _; isplitr
      rotate_left
      · iexact H7
      · ipureintro; intro j hj; omega
    isplitl [H8]; · iexact H8
    iexact H9
  rw [ec]
  iintro %_ HI
  unfold rowsDone
  icases HI with ⟨H6, ⟨%g, %hg, H7⟩, H8, H9⟩
  have eg : g = slabOut (cTab fm fl) (muTab fm fl) (lsTab fl) (View.read (Elt F) (xK L).view fx) :=
    funext fun j => hg j (j 0).isLt
  rw [eg]
  sl_exec (disch := exact View.amount_pos _ _ (show 0 < S16384.numel by decide))
  sl_step
  isplitl [Hx]; · iexact Hx
  isplitl [Hm]; · iexact Hm
  isplitl [Hl]; · iexact Hl
  isplitl [Ho]
  · iapply (Entails.of_eq (pointsTo_congr (out_scores L fx fm fl fo)))
    iexact Ho
  isplitl [H6]; · iexists _; iexact H6
  isplitl [H7]; · iexists _; iexact H7
  isplitl [H8]; · iexists _; iexact H8
  isplitl [H9]; · iexists _; iexact H9
  isplitl [HsA]; · iexact HsA
  isplitl [HsB]; · iexact HsB
  isplitl [HsC]; · iexact HsC
  isplitl [HsD]; · iexact HsD
  iexists _; iexact HO

end Cert.Proof.KernelIdeal

end
-- ==== Proof.KI.Tile.lean ====
/-
  The launch theorem's obligation for one vector subcore: what the call hands the subcore, what it hands back, and the body's
  run between the two, with the subcore's own scratch buffers and semaphores opened for the run and closed after it.
-/
module

public import proofs.«01_k».proof.Proof.KI.Body

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ
local notation "xW" => (Memref.whole Cert.KernelIdeal.main_v0_scv : Memref Cert.KernelIdeal.sig Kind.scVector Space.hbm Cert.KernelIdeal.S1048576 EltTy.f32)
local notation "muW" => (Memref.whole Cert.KernelIdeal.main_v2_scv : Memref Cert.KernelIdeal.sig Kind.scVector Space.hbm Cert.KernelIdeal.S512 EltTy.f32)
local notation "lsW" => (Memref.whole Cert.KernelIdeal.main_v4_scv : Memref Cert.KernelIdeal.sig Kind.scVector Space.hbm Cert.KernelIdeal.S512 EltTy.f32)
local notation "oW" => (Memref.whole Cert.KernelIdeal.main_v5_scv : Memref Cert.KernelIdeal.sig Kind.scVector Space.hbm Cert.KernelIdeal.S524288 EltTy.f32)
local notation "xV" => (Memref.whole Cert.KernelIdeal.cc0_scratch0 : Memref Cert.KernelIdeal.sig Kind.scVector Space.vmem Cert.KernelIdeal.S32768 EltTy.f32)
local notation "oV" => (Memref.whole Cert.KernelIdeal.cc0_scratch1 : Memref Cert.KernelIdeal.sig Kind.scVector Space.vmem Cert.KernelIdeal.S16384 EltTy.f32)
local notation "muV" => (Memref.whole Cert.KernelIdeal.cc0_scratch2 : Memref Cert.KernelIdeal.sig Kind.scVector Space.vmem Cert.KernelIdeal.S512 EltTy.f32)
local notation "lsV" => (Memref.whole Cert.KernelIdeal.cc0_scratch3 : Memref Cert.KernelIdeal.sig Kind.scVector Space.vmem Cert.KernelIdeal.S512 EltTy.f32)

/-! ## The subcore's semaphores and scratch buffers -/

section Tile

variable (d : Dev nD) (L : grid0.Coords)

/-- The four transfer semaphores of the subcore's task. -/
abbrev cell0 : GSem nD τ sig := (V d (cV L) (jV L), .dma cc0_scoped0.sem)
abbrev cell1 : GSem nD τ sig := (V d (cV L) (jV L), .dma cc0_scoped1.sem)
abbrev cell2 : GSem nD τ sig := (V d (cV L) (jV L), .dma cc0_scoped2.sem)
abbrev cell3 : GSem nD τ sig := (V d (cV L) (jV L), .dma cc0_scoped3.sem)

/-- The subcore's semaphores: the four its task uses, and the others. -/
theorem ownSems0_four : (ownSems0 (Ix := HIx 1) (Val := Elt F) (Name := ℕ) (U := UU) (Lvl := ℕ) (V d (cV L) (jV L)) : sProp 𝕄)
    = iprop(semVal (cell0 d L) 0 ∗ semVal (cell1 d L) 0 ∗ semVal (cell2 d L) 0 ∗ semVal (cell3 d L) 0
        ∗ bigSep (((((ownCells (V d (cV L) (jV L))).erase (cell0 d L)).erase (cell1 d L)).erase (cell2 d L)).erase (cell3 d L)) fun g => semVal g 0) := by
  have own : ∀ (s : DmaSems sig S_), (SemLoc.dma s.sem : SemLoc sig).isScoped .scVector = true →
      ((V d (cV L) (jV L), SemLoc.dma s.sem) : GSem nD τ sig) ∈ ownCells (V d (cV L) (jV L)) := fun s h => (mem_ownCells ..).mpr ⟨rfl, h⟩
  unfold SparseCore.Cfg.ownSems0
  rw [SparseCore.bigSep_erase' (own cc0_scoped0 (by decide)),
    SparseCore.bigSep_erase' (Finset.mem_erase.mpr ⟨by simp [cell0, cell1]; decide, own cc0_scoped1 (by decide)⟩),
    SparseCore.bigSep_erase' (Finset.mem_erase.mpr ⟨by simp [cell1, cell2]; decide,
      Finset.mem_erase.mpr ⟨by simp [cell0, cell2]; decide, own cc0_scoped2 (by decide)⟩⟩),
    SparseCore.bigSep_erase' (Finset.mem_erase.mpr ⟨by simp [cell2, cell3]; decide,
      Finset.mem_erase.mpr ⟨by simp [cell1, cell3]; decide, Finset.mem_erase.mpr ⟨by simp [cell0, cell3]; decide, own cc0_scoped3 (by decide)⟩⟩⟩)]

/-- A scratch buffer of the subcore, as the buffers it owns list it. -/
abbrev sref (b : Ref sig .scVector) : DevRef τ sig := (Proc.scVector (cV L) (jV L)).devRef b

/-- The subcore's buffers: the four its task uses, and the others. -/
theorem ownBufs_four : (ownBufs (Ix := HIx 1) (Val := Elt F) (Name := ℕ) (U := UU) (Lvl := ℕ) (V d (cV L) (jV L)) : sProp 𝕄)
    = iprop((∃ f, (V d (cV L) (jV L)).loc cc0_scratch0 ↦{fullShare} f) ∗ (∃ f, (V d (cV L) (jV L)).loc cc0_scratch1 ↦{fullShare} f)
        ∗ (∃ f, (V d (cV L) (jV L)).loc cc0_scratch2 ↦{fullShare} f) ∗ (∃ f, (V d (cV L) (jV L)).loc cc0_scratch3 ↦{fullShare} f)
        ∗ bigSep (((((ownRefs (τ := τ) (.scVector (cV L) (jV L))).erase (sref L cc0_scratch0)).erase (sref L cc0_scratch1)).erase
            (sref L cc0_scratch2)).erase (sref L cc0_scratch3)) fun b => iprop(∃ f, ((d, b) : Loc nD τ sig) ↦{fullShare} f)) := by
  have ne : ∀ {b b' : Ref sig .scVector}, b ≠ b' → sref L b ≠ sref L b' := fun h e => h (Proc.devRef_injective _ e)
  have own : ∀ b : Ref sig .scVector, (sref L b).owner = _ → sref L b ∈ ownRefs (τ := τ) (.scVector (cV L) (jV L)) :=
    fun b h => SparseCore.Cfg.mem_ownRefs_of_owner (p := Proc.scVector (cV L) (jV L)) (b := sref L b) h
  unfold SparseCore.Cfg.ownBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩),
    SparseCore.bigSep_erase' (Finset.mem_erase.mpr ⟨ne (by decide), Finset.mem_erase.mpr ⟨ne (by decide),
      Finset.mem_erase.mpr ⟨ne (by decide), own cc0_scratch3 rfl⟩⟩⟩)]

/-! ## What the call hands a subcore and takes back -/

/-- The share of the two tables the subcore reads under: one of thirty-two. -/
abbrev tok : PosShare TreeShare := Transfers.shareTokN fullShare (2 * (L 1).val + (L 0).val)

/-- The subcore's slice of the tokens, its shares of the two tables, its slice of the score array at `f`. -/
def tileIn (fx : S1048576.Idx → F .f32) (fm fl : S512.Idx → F .f32) (fo : S524288.Idx → F .f32) : sProp 𝕄 :=
  iprop((xLoc d ↦[(xK L).view.set]{fullShare} fx) ∗ (muLoc d ↦{tok L} fm) ∗ (lsLoc d ↦{tok L} fl) ∗ (oLoc d ↦[(oK L).view.set]{fullShare} fo))

/-- The subcore's slice of the score array, at the scores. -/
def tileOut (fx : S1048576.Idx → F .f32) (fm fl : S512.Idx → F .f32) : sProp 𝕄 :=
  oLoc d ↦[(oK L).view.set]{fullShare} scores fx fm fl

instance tileIn_storable (fx : S1048576.Idx → F .f32) (fm fl : S512.Idx → F .f32) (fo : S524288.Idx → F .f32) :
    BI.Storable (upEmb : UEmb _ 𝕄) (tileIn d L fx fm fl fo) := by unfold tileIn; infer_instance
instance tileOut_storable (fx : S1048576.Idx → F .f32) (fm fl : S512.Idx → F .f32) :
    BI.Storable (upEmb : UEmb _ 𝕄) (tileOut d L fx fm fl) := by unfold tileOut; infer_instance

/-- A subcore's task, from what the call hands it to what it hands back, its scratch and semaphores its own throughout. -/
theorem tile_body (hF : (K (F := F)).Facts) (O : CellTallies nD τ sig (HIx 1)) (W : Waits sig (HIx 1)) (hO : ∀ g, O g none = 0)
    (fx : S1048576.Idx → F .f32) (fm fl : S512.Idx → F .f32) (fo : S524288.Idx → F .f32) :
    iprop(levAts (K (F := F)).L (K (F := F)).lev ∗ emp ∗ tileIn d L fx fm fl fo ∗ scopedBufs (V d (cV L) (jV L))
        ∗ scopedSems0 (V d (cV L) (jV L)) ∗ owes (V d (cV L) (jV L)) O W)
      ⊢ wp frame (wpE (defs₀ (F := F)) 𝒱₀ (V d (cV L) (jV L)) none) Set.univ
          (cc0__sc_body L xW (Memref.isWhole_whole _) muW (Memref.isWhole_whole _) lsW (Memref.isWhole_whole _) oW (Memref.isWhole_whole _)
            xV (Memref.isWhole_whole _) oV (Memref.isWhole_whole _) muV (Memref.isWhole_whole _) lsV (Memref.isWhole_whole _)
            cc0_scoped0 cc0_scoped1 cc0_scoped2 cc0_scoped3) fun _ => (iprop(
        tileOut d L fx fm fl ∗ scopedBufs (V d (cV L) (jV L)) ∗ scopedSems0 (V d (cV L) (jV L))
          ∗ ∃ W', ⌜∀ p ∈ W', p ∈ W ∨ p.2 = none ∨ p.2 = some (0 : Fin 1)⌝ ∗ owes (V d (cV L) (jV L)) O W') : sProp 𝕄) := by
  rw [(K (F := F)).scopedBufs_V hF d (cV L) (jV L), SparseCore.Cfg.scopedSems0_V (Val := Elt F) d (cV L) (jV L), ownSems0_four, ownBufs_four]
  unfold tileIn tileOut
  iintro ⟨#Hlv, -, ⟨Hx, Hm, Hl, Ho⟩, ⟨⟨%f6, H6⟩, ⟨%f7, H7⟩, ⟨%f8, H8⟩, ⟨%f9, H9⟩, Hbufs⟩, ⟨HsA, HsB, HsC, HsD, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hb := body_run d L (tok L) O W hO fx fm fl fo f6 f7 f8 f9
  iapply (wp_wand_r frame (wpE (defs₀ (F := F)) 𝒱₀ (V d (cV L) (jV L)) none) Set.univ)
  isplitl [Hx Hm Hl Ho H6 H7 H8 H9 HsA HsB HsC HsD HO]
  · iapply hb
    isplitr; · iexact Hmw
    isplitl [Hx]; · iexact Hx
    isplitl [Hm]; · iexact Hm
    isplitl [Hl]; · iexact Hl
    isplitl [Ho]; · iexact Ho
    isplitl [H6]; · iexact H6
    isplitl [H7]; · iexact H7
    isplitl [H8]; · iexact H8
    isplitl [H9]; · iexact H9
    isplitl [HsA]; · iexact HsA
    isplitl [HsB]; · iexact HsB
    isplitl [HsC]; · iexact HsC
    isplitl [HsD]; · iexact HsD
    iexact HO
  iintro %_ ⟨-, -, -, Ho, H6, H7, H8, H9, HsA, HsB, HsC, HsD, ⟨%W', HO⟩⟩
  isplitl [Ho]; · iexact Ho
  isplitl [H6 H7 H8 H9 Hbufs]
  · isplitl [H6]; · iexact H6
    isplitl [H7]; · iexact H7
    isplitl [H8]; · iexact H8
    isplitl [H9]; · iexact H9
    iexact Hbufs
  isplitl [HsA HsB HsC HsD Hsems]
  · isplitl [HsA]; · iexact HsA
    isplitl [HsB]; · iexact HsB
    isplitl [HsC]; · iexact HsC
    isplitl [HsD]; · iexact HsD
    iexact Hsems
  iexists W'; isplitr; swap; · iexact HO
  ipureintro; intro p _
  rcases p.2 with _ | q
  · exact .inr (.inl rfl)
  · exact .inr (.inr (congrArg some (Subsingleton.elim q 0)))

end Tile

end Cert.Proof.KernelIdeal

end
-- ==== Proof.KI.Launch.lean ====
/-
  The launch: the arrays split among the thirty-two subcores and the score array put together again, the host's operations
  around the call, and the program's whole run with the score array's value.
-/
module

public import proofs.«01_k».proof.Proof.KI.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr held_sub_split wp_hlo_within)

variable {F : FTy → Type} [FloatOps F] [Named F]
local notation "𝕄" => MT nD τ sig (HIx 1) (Elt F) ℕ UU ℕ
local notation "xW" => (Memref.whole Cert.KernelIdeal.main_v0_scv : Memref Cert.KernelIdeal.sig Kind.scVector Space.hbm Cert.KernelIdeal.S1048576 EltTy.f32)
local notation "muW" => (Memref.whole Cert.KernelIdeal.main_v2_scv : Memref Cert.KernelIdeal.sig Kind.scVector Space.hbm Cert.KernelIdeal.S512 EltTy.f32)
local notation "lsW" => (Memref.whole Cert.KernelIdeal.main_v4_scv : Memref Cert.KernelIdeal.sig Kind.scVector Space.hbm Cert.KernelIdeal.S512 EltTy.f32)
local notation "oW" => (Memref.whole Cert.KernelIdeal.main_v5_scv : Memref Cert.KernelIdeal.sig Kind.scVector Space.hbm Cert.KernelIdeal.S524288 EltTy.f32)
local notation "xV" => (Memref.whole Cert.KernelIdeal.cc0_scratch0 : Memref Cert.KernelIdeal.sig Kind.scVector Space.vmem Cert.KernelIdeal.S32768 EltTy.f32)
local notation "oV" => (Memref.whole Cert.KernelIdeal.cc0_scratch1 : Memref Cert.KernelIdeal.sig Kind.scVector Space.vmem Cert.KernelIdeal.S16384 EltTy.f32)
local notation "muV" => (Memref.whole Cert.KernelIdeal.cc0_scratch2 : Memref Cert.KernelIdeal.sig Kind.scVector Space.vmem Cert.KernelIdeal.S512 EltTy.f32)
local notation "lsV" => (Memref.whole Cert.KernelIdeal.cc0_scratch3 : Memref Cert.KernelIdeal.sig Kind.scVector Space.vmem Cert.KernelIdeal.S512 EltTy.f32)

/-! ## The subcores, and the slices of the arrays they take -/

/-- The grid's place of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The same from a pair of numbers. -/
abbrev place (p : Fin 2 × Fin 16) : grid0.Coords := coordsV p.1 p.2

/-- The slice of tokens, and of scores, that subcore `p` takes. -/
abbrev xSet (p : Fin 2 × Fin 16) : Finset S1048576.Idx := (xK (place p)).view.set
abbrev oSet (p : Fin 2 × Fin 16) : Finset S524288.Idx := (oK (place p)).view.set

theorem mem_xSet (p : Fin 2 × Fin 16) (j : S1048576.Idx) :
    j ∈ xSet p ↔ 65536 * p.2.val + 32768 * p.1.val ≤ (j 0).val ∧ (j 0).val < 65536 * p.2.val + 32768 * p.1.val + 32768 := by
  have e : xSet p = (Rect.unit (s := S1048576) (k0_off1 (place p)) S32768.size (k0_off1_inb (place p))).set := by
    show ((View.whole (main_v0_scv : Ref sig .scVector)).slice (Rect.unit (s := S1048576) (k0_off1 (place p)) S32768.size (k0_off1_inb (place p)))).set = _
    rw [View.set_slice]; exact Finset.map_refl
  rw [e, Rect.mem_set_unit]
  constructor
  · intro h
    have h0 := h 0
    rw [congrFun (k0_off1_eq (place p)) 0] at h0
    exact h0
  · intro h a
    obtain rfl : a = 0 := Subsingleton.elim (α := Fin 1) a 0
    rw [congrFun (k0_off1_eq (place p)) 0]
    exact h

theorem mem_oSet (p : Fin 2 × Fin 16) (j : S524288.Idx) :
    j ∈ oSet p ↔ 32768 * p.2.val + 16384 * p.1.val ≤ (j 0).val ∧ (j 0).val < 32768 * p.2.val + 16384 * p.1.val + 16384 := by
  have e : oSet p = (Rect.unit (s := S524288) (k0_off5 (place p)) S16384.size (k0_off5_inb (place p))).set := by
    show ((View.whole (main_v5_scv : Ref sig .scVector)).slice (Rect.unit (s := S524288) (k0_off5 (place p)) S16384.size (k0_off5_inb (place p)))).set = _
    rw [View.set_slice]; exact Finset.map_refl
  rw [e, Rect.mem_set_unit]
  constructor
  · intro h
    have h0 := h 0
    rw [congrFun (k0_off5_eq (place p)) 0] at h0
    exact h0
  · intro h a
    obtain rfl : a = 0 := Subsingleton.elim (α := Fin 1) a 0
    rw [congrFun (k0_off5_eq (place p)) 0]
    exact h

/-- Two different subcores' slices do not meet, -/
theorem xSet_disjoint : ∀ p ∈ (Finset.univ : Finset (Fin 2 × Fin 16)), ∀ q ∈ (Finset.univ : Finset (Fin 2 × Fin 16)), p ≠ q → Disjoint (xSet p) (xSet q) := by
  intro p _ q _ h
  refine Finset.disjoint_left.mpr fun j hp hq => h ?_
  rw [mem_xSet] at hp hq
  have := p.1.isLt; have := q.1.isLt
  exact Prod.ext (Fin.ext (by omega)) (Fin.ext (by omega))

theorem oSet_disjoint : ∀ p ∈ (Finset.univ : Finset (Fin 2 × Fin 16)), ∀ q ∈ (Finset.univ : Finset (Fin 2 × Fin 16)), p ≠ q → Disjoint (oSet p) (oSet q) := by
  intro p _ q _ h
  refine Finset.disjoint_left.mpr fun j hp hq => h ?_
  rw [mem_oSet] at hp hq
  have := p.1.isLt; have := q.1.isLt
  exact Prod.ext (Fin.ext (by omega)) (Fin.ext (by omega))

/-- and together they are the array. -/
theorem xSet_cover : (Finset.univ : Finset (Fin 2 × Fin 16)).biUnion xSet = Finset.univ := by
  refine Finset.eq_univ_iff_forall.mpr fun j => Finset.mem_biUnion.mpr ?_
  have hj : (j 0).val < 1048576 := (j 0).isLt
  refine ⟨(⟨(j 0).val / 32768 % 2, by omega⟩, ⟨(j 0).val / 65536, by omega⟩), Finset.mem_univ _, ?_⟩
  rw [mem_xSet]; dsimp only; omega

theorem oSet_cover : (Finset.univ : Finset (Fin 2 × Fin 16)).biUnion oSet = Finset.univ := by
  refine Finset.eq_univ_iff_forall.mpr fun j => Finset.mem_biUnion.mpr ?_
  have hj : (j 0).val < 524288 := (j 0).isLt
  refine ⟨(⟨(j 0).val / 16384 % 2, by omega⟩, ⟨(j 0).val / 32768, by omega⟩), Finset.mem_univ _, ?_⟩
  rw [mem_oSet]; dsimp only; omega

/-- The whole array of tokens is its thirty-two slices, -/
theorem xPts_split (d : Dev nD) (f : S1048576.Idx → F .f32) :
    (xLoc d ↦{fullShare} f : sProp 𝕄) = bigSep Finset.univ fun p : Fin 2 × Fin 16 => xLoc d ↦[xSet p]{fullShare} f := by
  rw [← pointsTo_biUnion Finset.univ (ℓ := xLoc d) xSet xSet_disjoint, xSet_cover]; try rfl

/-- and so the array of scores. -/
theorem oPts_split (d : Dev nD) (f : S524288.Idx → F .f32) :
    (oLoc d ↦{fullShare} f : sProp 𝕄) = bigSep Finset.univ fun p : Fin 2 × Fin 16 => oLoc d ↦[oSet p]{fullShare} f := by
  rw [← pointsTo_biUnion Finset.univ (ℓ := oLoc d) oSet oSet_disjoint, oSet_cover]; try rfl

/-- The thirty-two pairs, numbered as the subcores number themselves. -/
def number : Fin 2 × Fin 16 ≃ Fin 32 where
  toFun p := ⟨2 * p.2.val + p.1.val, by have := p.1.isLt; have := p.2.isLt; omega⟩
  invFun w := (⟨w.val % 2, by omega⟩, ⟨w.val / 2, by omega⟩)
  left_inv p := by
    have := p.1.isLt
    exact Prod.ext (Fin.ext (by dsimp only; omega)) (Fin.ext (by dsimp only; omega))
  right_inv w := Fin.ext (by dsimp only; omega)

/-- A table held whole is, for each subcore, a share to read it under, and a rest. -/
theorem table_split {ℓ : Loc nD τ sig} (f : Buf (Elt F) ℓ) :
    (ℓ ↦{fullShare} f : sProp 𝕄) ⊢ bigSep Finset.univ fun p : Fin 2 × Fin 16 => ℓ ↦{tok (place p)} f := by
  refine (Transfers.pointsTo_toks fullShare 32).1.trans (sep_elim_right.trans (Entails.of_eq ?_))
  exact bigSep_univ_equiv number fun w : Fin 32 => (ℓ ↦{Transfers.shareTok fullShare 32 w} f : sProp 𝕄)

/-! ## The host's operations before and after the call -/

variable (m : (ℓ : Loc nD τ sig) → Buf (Elt F) ℓ)

/-- The TensorCore's buffers, by name. -/
abbrev at' (b : Ref sig .tc) : DevRef τ sig := Proc.devRef .tc b

abbrev opX : HloOp τ sig (Elt F) := StableHlo.reshape main_arg0 main_v0 (rfl : (.f32 : EltTy) = .f32) shapeCasts_S32768x32_S1048576
abbrev opM1 : HloOp τ sig (Elt F) := StableHlo.unary main_arg2 main_v1
  ((transpose S32x16 [1, 0] · transposes_S16x32_S32x16_1_0) : (⟨S16x32, .f32⟩ : BufTy).Contents (Elt F) → (⟨S32x16, .f32⟩ : BufTy).Contents (Elt F))
abbrev opM2 : HloOp τ sig (Elt F) := StableHlo.reshape main_v1 main_v2 (rfl : (.f32 : EltTy) = .f32) shapeCasts_S32x16_S512
abbrev opL1 : HloOp τ sig (Elt F) := StableHlo.unary main_arg3 main_v3
  ((transpose S32x16 [1, 0] · transposes_S16x32_S32x16_1_0) : (⟨S16x32, .f32⟩ : BufTy).Contents (Elt F) → (⟨S32x16, .f32⟩ : BufTy).Contents (Elt F))
abbrev opL2 : HloOp τ sig (Elt F) := StableHlo.reshape main_v3 main_v4 (rfl : (.f32 : EltTy) = .f32) shapeCasts_S32x16_S512
abbrev opO : HloOp τ sig (Elt F) := StableHlo.reshape main_v5 main_v6 (rfl : (.f32 : EltTy) = .f32) shapeCasts_S524288_S32768x16

/-- The arguments and the result; the call's operands; all the buffers. -/
abbrev SF : Finset (DevRef τ sig) := {at' main_arg0, at' main_arg1, at' main_arg2, at' main_arg3, at' main_arg4, at' main_arg5, at' main_arg6, at' main_v6}
abbrev SC : Finset (DevRef τ sig) := {at' main_v0, at' main_v2, at' main_v4, at' main_v5}
abbrev SA : Finset (DevRef τ sig) := {at' main_arg0, at' main_arg1, at' main_arg2, at' main_arg3, at' main_arg4, at' main_arg5, at' main_arg6,
  at' main_v0, at' main_v1, at' main_v2, at' main_v3, at' main_v4, at' main_v5, at' main_v6}

/-- The buffers' contents at the launch, when the call starts, when it has ended, and at the end. -/
def V0 (d : Dev nD) : Valuation τ sig (Elt F) := fun b => m (d, b)
abbrev V1 (d : Dev nD) : Valuation τ sig (Elt F) :=
  (opL2 (F := F)).result ((opL1 (F := F)).result ((opM2 (F := F)).result ((opM1 (F := F)).result ((opX (F := F)).result (V0 m d)))))

/-- The call's three operands, and what its result buffer holds before it. -/
def xFlat (d : Dev nD) : S1048576.Idx → F .f32 := V1 m d (at' main_v0)
def muFlat (d : Dev nD) : S512.Idx → F .f32 := V1 m d (at' main_v2)
def lsFlat (d : Dev nD) : S512.Idx → F .f32 := V1 m d (at' main_v4)
def oFlat (d : Dev nD) : S524288.Idx → F .f32 := V1 m d (at' main_v5)
/-- The call's result. -/
def outFlat (d : Dev nD) : S524288.Idx → F .f32 := scores (xFlat m d) (muFlat m d) (lsFlat m d)

def V2 (d : Dev nD) : Valuation τ sig (Elt F) := Function.update (V1 m d) (at' main_v5) (outFlat m d)
abbrev V3 (d : Dev nD) : Valuation τ sig (Elt F) := (opO (F := F)).result (V2 m d)

/-! ## What the call hands over -/

/-- What subcore `p` of device `d` gets, and hands back. -/
abbrev inOf (d : Dev nD) (p : Fin 2 × Fin 16) : sProp 𝕄 := tileIn d (place p) (xFlat m d) (muFlat m d) (lsFlat m d) (oFlat m d)
abbrev outOf (d : Dev nD) (p : Fin 2 × Fin 16) : sProp 𝕄 := tileOut d (place p) (xFlat m d) (muFlat m d) (lsFlat m d)

/-- The call's payloads: a SparseCore gets what its sixteen subcores get, and hands back what they hand back. -/
def P : (K (F := F)).Pay (nD := nD) (Val := Elt F) (Name := ℕ) (U := UU) where
  st := fun q d c => match q with | 0 => bigSep Finset.univ fun i : Fin 16 => inOf m d (c, i)
  dn := fun q d c => match q with | 0 => bigSep Finset.univ fun i : Fin 16 => outOf m d (c, i)
  go := fun q d c i => match q with | 0 => inOf m d (c, i)
  td := fun q d c i => match q with | 0 => outOf m d (c, i)
  x := fun _ _ => iprop(emp)

instance P_storable : (P (F := F) m).IsStorable where
  st q d c := match q with | 0 => by show BI.Storable _ (bigSep Finset.univ fun i : Fin 16 => inOf m d (c, i)); infer_instance
  dn q d c := match q with | 0 => by show BI.Storable _ (bigSep Finset.univ fun i : Fin 16 => outOf m d (c, i)); infer_instance
  go q d c i := match q with | 0 => by show BI.Storable _ (inOf m d (c, i)); infer_instance
  td q d c i := match q with | 0 => by show BI.Storable _ (outOf m d (c, i)); infer_instance

theorem defs₀_vector (c : Fin τ.nSC) (s : Fin τ.nSub) :
    defs₀ (F := F) (.scVector c s) 0 ()
      = SparseCore.onTile hcore0 hsub0 (fun c s => cc0__sc_body (coordsV c s)
          xW (Memref.isWhole_whole _) muW (Memref.isWhole_whole _) lsW (Memref.isWhole_whole _) oW (Memref.isWhole_whole _)
          xV (Memref.isWhole_whole _) oV (Memref.isWhole_whole _) muV (Memref.isWhole_whole _) lsV (Memref.isWhole_whole _)
          cc0_scoped0 cc0_scoped1 cc0_scoped2 cc0_scoped3) ⟨⟩ c s := rfl

/-- Every subcore's task does what the call's payloads say. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO (xFlat m d) (muFlat m d) (lsFlat m d) (oFlat m d)

/-- A SparseCore's sequencer passes its payload on to its subcores and theirs back, as it is. -/
theorem vecSplit : ∀ (d : Dev nD) (c : Fin ((K (F := F)).nCore 0)),
    (P m).st 0 d c ⊢ |={Set.univ}=> iprop((bigSep Finset.univ fun i : Fin ((K (F := F)).nSub 0) => (P m).go 0 d c i)
      ∗ ((bigSep Finset.univ fun i : Fin ((K (F := F)).nSub 0) => (P m).td 0 d c i) -∗ (P m).dn 0 d c)) := by
  intro d c
  show (bigSep Finset.univ fun i : Fin 16 => inOf m d (c, i)) ⊢ |={Set.univ}=> iprop((bigSep Finset.univ fun i : Fin 16 => inOf m d (c, i))
      ∗ ((bigSep Finset.univ fun i : Fin 16 => outOf m d (c, i)) -∗ bigSep Finset.univ fun i : Fin 16 => outOf m d (c, i)))
  iintro H
  imodintro
  isplitl [H]; · iexact H
  iintro H; iexact H

/-- What @main hands the call: the operands and the result buffer, split among the subcores; -/
theorem give_all (d : Dev nD) :
    iprop((xLoc d ↦{fullShare} xFlat m d) ∗ (muLoc d ↦{fullShare} muFlat m d) ∗ (lsLoc d ↦{fullShare} lsFlat m d) ∗ (oLoc d ↦{fullShare} oFlat m d))
      ⊢ (bigSep Finset.univ fun c : Fin ((K (F := F)).nCore 0) => (P m).st 0 d c : sProp 𝕄) := by
  have split : iprop((xLoc d ↦{fullShare} xFlat m d) ∗ (muLoc d ↦{fullShare} muFlat m d) ∗ (lsLoc d ↦{fullShare} lsFlat m d) ∗ (oLoc d ↦{fullShare} oFlat m d))
      ⊢ (bigSep Finset.univ (inOf m d) : sProp 𝕄) := by
    unfold inOf tileIn
    rw [bigSep_sep', bigSep_sep', bigSep_sep', xPts_split, oPts_split]
    iintro ⟨Hx, Hm, Hl, Ho⟩
    isplitl [Hx]; · iexact Hx
    isplitl [Hm]; · iapply (table_split (ℓ := muLoc d) (muFlat m d)); iexact Hm
    isplitl [Hl]; · iapply (table_split (ℓ := lsLoc d) (lsFlat m d)); iexact Hl
    iexact Ho
  exact split.trans (Entails.of_eq (bigSep_univ_prod (inOf m d)))

/-- what the call hands back: the result buffer at the scores. -/
theorem take_all (d : Dev nD) :
    (bigSep Finset.univ fun c : Fin ((K (F := F)).nCore 0) => (P m).dn 0 d c : sProp 𝕄) ⊢ (oLoc d ↦{fullShare} outFlat m d : sProp 𝕄) := by
  rw [oPts_split]
  exact Entails.of_eq (bigSep_univ_prod (outOf m d)).symm

/-! ## The launch element -/

def u₀ : UU := (initOf (K (F := F)).hsCells (K (F := F)).hsToks, 1)

/-- A separating conjunction of nothings is nothing. -/
theorem bigSep_nothing {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_nothing]; iempintro
  unfold P; dsimp only
  rw [show (bigSep Finset.univ fun _ : Thread nD τ => bigSep Finset.univ fun _ : Fin 1 => (iprop(emp) : sProp 𝕄)) = iprop(emp) from by
    rw [bigSep_congr fun _ _ => bigSep_nothing _, bigSep_nothing]]
  iempintro

/-! ## @main on the TensorCore -/

variable (ρ : Dev nD → PrngReg)

theorem unscoped_held (d : Dev nD) : (unscopedBufs d (fun b => m ((SparseCore.T d).loc b)) : sProp 𝕄) = held (T d) SA (V0 m d) := by
  unfold unscopedBufs held
  rw [show (SA : Finset (DevRef τ sig)) = (Finset.univ.filter fun b : Ref sig .tc => ¬ b.isScoped).image (Proc.devRef (τ := τ) .tc) by decide,
    SparseCore.bigSep_image_of_injOn (fun _ _ _ _ h => Proc.devRef_injective _ h)]
  rfl

/-- The call's operands and result buffer, held one by one. -/
theorem held_SC (d : Dev nD) (W : Valuation τ sig (Elt F)) :
    (held (T d) SC W : sProp 𝕄) = iprop((xLoc d ↦{fullShare} W (at' main_v0)) ∗ (muLoc d ↦{fullShare} W (at' main_v2))
      ∗ (lsLoc d ↦{fullShare} W (at' main_v4)) ∗ (oLoc d ↦{fullShare} W (at' main_v5))) := by
  unfold held SC
  rw [SparseCore.bigSep_insert' (by decide), SparseCore.bigSep_insert' (by decide), SparseCore.bigSep_insert' (by decide), bigSep_singleton]

/-- The other buffers with the result buffer at the scores: the buffers as the call leaves them. -/
theorem held_back (d : Dev nD) :
    iprop((oLoc d ↦{fullShare} outFlat m d) ∗ held (T d) (SA \ SC) (V1 m d)) ⊢ (held (T d) (insert (at' main_v5) (SA \ SC)) (V2 m d) : sProp 𝕄) := by
  have e : (held (T d) (SA \ SC) (V1 m d) : sProp 𝕄) = held (T d) (SA \ SC) (V2 m d) :=
    held_congr _ fun b hb => (Function.update_of_ne (fun h => by subst h; revert hb; decide) _ _).symm
  rw [e]; unfold held
  rw [SparseCore.bigSep_insert' (by decide), show V2 m d (at' main_v5) = outFlat m d from Function.update_self _ _ _]

/-- What @main leaves: the arguments and the result, at the last valuation. -/
abbrev FIN (d : Dev nD) : sProp 𝕄 := held (T d) SF (V3 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := SA) (show ({at' main_arg0, at' main_v0} : Finset (DevRef τ sig)) ⊆ SA by decide) (V := V0 m d)) $$ [Hb Hheld]
  · isplitl [Hb] <;> iassumption
  iintro ⟨Hb, Hheld⟩
  rw [wp_ret]; imodintro
  iapply (wp_hlo_within 𝒱 (SparseCore.T d) none Set.univ (op := opM1) (S := SA) (show ({at' main_arg2, at' main_v1} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := opM2) (S := SA) (show ({at' main_v1, at' main_v2} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := opL1) (S := SA) (show ({at' main_arg3, at' main_v3} : Finset (DevRef τ sig)) ⊆ SA by decide)) $$ [Hb Hheld]
  · isplitl [Hb] <;> iassumption
  iintro ⟨Hb, Hheld⟩
  rw [wp_ret]; imodintro
  iapply (wp_hlo_within 𝒱 (SparseCore.T d) none Set.univ (op := opL2) (S := SA) (show ({at' main_v3, at' main_v4} : Finset (DevRef τ sig)) ⊆ SA by decide)) $$ [Hb Hheld]
  · isplitl [Hb] <;> iassumption
  iintro ⟨Hb, Hheld⟩
  rw [wp_ret]; imodintro
  ihave Hh := (Entails.of_eq (held_sub_split (T d) (show SC ⊆ SA by decide) (V1 m d))) $$ Hheld
  icases Hh with ⟨Hcall, Hrest⟩
  ihave Hcall := (Entails.of_eq (held_SC d (V1 m d))) $$ Hcall
  iapply ((K (F := F)).wp_run (D (F := F)) 𝒱 (EH := EH) (P := P m) κ d 0) $$ [Hst Hcall Hb Hrest Hts]
  isplitr; · iexact Hctx
  isplitl [Hst]; · iexact Hst
  isplitl [Hcall]
  · iapply (give_all m d); iexact Hcall
  iintro ⟨Hst, Hdn⟩
  ihave Ho := (take_all m d) $$ Hdn
  ihave Hheld := (held_back m d) $$ [Ho Hrest]
  · isplitl [Ho] <;> iassumption
  iapply (wp_hlo_within 𝒱 (SparseCore.T d) none Set.univ (op := opO) (S := insert (at' main_v5) (SA \ SC))
    (show ({at' main_v5, at' main_v6} : Finset (DevRef τ sig)) ⊆ insert (at' main_v5) (SA \ SC) by decide) (V := V2 m d)) $$ [Hb Hheld]
  · isplitl [Hb] <;> iassumption
  iintro ⟨Hb, Hheld⟩
  ihave Hh := (Entails.of_eq (held_sub_split (T d) (show SF ⊆ insert (at' main_v5) (SA \ SC) by decide) (V3 m d))) $$ Hheld
  icases Hh with ⟨Hfin, -⟩
  rw [wp_ret]; imodintro; imodintro
  isplitl [Hst]; · iexact Hst
  isplitl [Hfin]; · iexact Hfin
  isplitl [Hb] <;> iassumption

/-- Held buffers are what the memory holds: each one's contents read against the same state. -/
theorem held_reads (d : Dev nD) (W : Valuation τ sig (Elt F)) (s' : Phys nD τ sig (Elt F)) (S : Finset (DevRef τ sig)) :
    iprop(held (T d) S W ∗ SI s') ⊢ (⌜∀ b ∈ S, s'.mem.mem (d, b) = W b⌝ : sProp 𝕄) := by
  unfold held
  induction S using Finset.induction_on with
  | empty => iintro -; ipureintro; exact fun _ h => absurd h (Finset.notMem_empty _)
  | insert a S ha ih =>
    rw [SparseCore.bigSep_insert' ha]
    iintro ⟨⟨Hx, Hrest⟩, HSI⟩
    ihave H := (persistent_entails_right (SI_pointsTo_agree (st := s') (ℓ := (d, a)) (I := Finset.univ) (q := fullShare) (f := W a))) $$ [HSI Hx]
    · isplitl [HSI] <;> iassumption
    icases H with ⟨%hx, ⟨HSI, -⟩⟩
    ihave H := ih $$ [HSI Hrest]
    · isplitl [Hrest] <;> iassumption
    icases H with %hr
    ipureintro
    intro b hb
    rcases Finset.mem_insert.mp hb with rfl | hb
    · exact funext fun i => hx i (Finset.mem_univ i)
    · exact hr b hb

/-- What the end's memory holds: the arguments and the result at the last valuation. -/
def fq (d : Dev nD) (s' : Phys nD τ sig (Elt F)) : Prop := ∀ b ∈ SF, s'.mem.mem (d, b) = V3 m d b

theorem hfin (d : Dev nD) (s' : Phys nD τ sig (Elt F)) : iprop(FIN m d ∗ SI s') ⊢ (⌜fq m d s'⌝ : sProp 𝕄) :=
  held_reads d (V3 m d) s' SF

/-! ## The program's run -/

def QC : PUnit × MemSt nD τ sig (Elt F) → Prop := fun r => (∀ d : Dev nD, ∀ b ∈ SF, r.2.mem (d, b) = V3 m d b) ∧ r.2.sem = fun _ => 0

/-- The program runs from any memory; it ends with the arguments and the result at the last valuation, and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

/-- A buffer no host operation writes, and the call does not, ends as it began. -/
theorem V3_keep (d : Dev nD) (b : Ref sig .tc) (h : b ∉ [main_v0, main_v1, main_v2, main_v3, main_v4, main_v5, main_v6]) :
    V3 m d (at' b) = m (d, at' b) := by
  simp only [List.mem_cons, List.not_mem_nil, or_false, not_or] at h
  obtain ⟨h0, h1, h2, h3, h4, h5, h6⟩ := h
  refine (StableHlo.reshape_result_ne _ _ _ _ _ _ _ h6).trans ((Function.update_of_ne (StableHlo.devRef_ne_of_ne h5) _ _).trans ?_)
  refine (StableHlo.reshape_result_ne _ _ _ _ _ _ _ h4).trans ((StableHlo.unary_result_ne _ _ _ _ _ _ h3).trans ?_)
  refine (StableHlo.reshape_result_ne _ _ _ _ _ _ _ h2).trans ((StableHlo.unary_result_ne _ _ _ _ _ _ h1).trans ?_)
  exact StableHlo.reshape_result_ne _ _ _ _ _ _ _ h0

/-- What a final state holds at an argument, from the run's conclusion. -/
theorem arg_of_run {r : PUnit × MemSt nD τ sig (Elt F)} (h : QC m r) (d : Dev nD) (b : Ref sig .tc) (hb : at' b ∈ SF)
    (h' : b ∉ [main_v0, main_v1, main_v2, main_v3, main_v4, main_v5, main_v6]) : r.2.mem (d, at' b) = m (d, at' b) :=
  (h.1 d _ hb).trans (V3_keep m d b h')

/-- The seven arguments, as the claims list them. -/
theorem args_of_run {r : PUnit × MemSt nD τ sig (Elt F)} (h : QC m r) (c : Dev nD) :
    r.2.mem (c, at' main_arg0) = m (c, at' main_arg0) ∧ r.2.mem (c, at' main_arg1) = m (c, at' main_arg1)
      ∧ r.2.mem (c, at' main_arg2) = m (c, at' main_arg2) ∧ r.2.mem (c, at' main_arg3) = m (c, at' main_arg3)
      ∧ r.2.mem (c, at' main_arg4) = m (c, at' main_arg4) ∧ r.2.mem (c, at' main_arg5) = m (c, at' main_arg5)
      ∧ r.2.mem (c, at' main_arg6) = m (c, at' main_arg6) :=
  ⟨arg_of_run m h c main_arg0 (by decide) (by decide), arg_of_run m h c main_arg1 (by decide) (by decide), arg_of_run m h c main_arg2 (by decide) (by decide),
    arg_of_run m h c main_arg3 (by decide) (by decide), arg_of_run m h c main_arg4 (by decide) (by decide), arg_of_run m h c main_arg5 (by decide) (by decide),
    arg_of_run m h c main_arg6 (by decide) (by decide)⟩

/-- The run with its values dropped: the arguments end as they began, and every semaphore ends at zero. -/
theorem frame_run [∀ e, Nonempty (Elt F e)] : θ_run (Cert.KernelIdeal.defs (F := F)) (Cert.KernelIdeal.threads (F := F)) ⟨m, fun _ => 0, ρ⟩
    (fun r => (∀ c : Dev nD, r.2.mem (c, at' main_arg0) = m (c, at' main_arg0) ∧ r.2.mem (c, at' main_arg1) = m (c, at' main_arg1)
      ∧ r.2.mem (c, at' main_arg2) = m (c, at' main_arg2) ∧ r.2.mem (c, at' main_arg3) = m (c, at' main_arg3)
      ∧ r.2.mem (c, at' main_arg4) = m (c, at' main_arg4) ∧ r.2.mem (c, at' main_arg5) = m (c, at' main_arg5)
      ∧ r.2.mem (c, at' main_arg6) = m (c, at' main_arg6)) ∧ r.2.sem = fun _ => 0) :=
  (θ_run (Cert.KernelIdeal.defs (F := F)) _ _).mono (fun _ h => ⟨args_of_run m h, h.2⟩) (run_main m ρ)

end Cert.Proof.KernelIdeal

end
-- ==== Proof.Math.lean ====
/-
  The mathematics of the claim, over the extended reals and free of both programs: the kernel's recursion over the features
  gives the sum of the features' Gaussian log-densities.
-/
module

public import Idealize.ShloMosaic.PureOps.Ideal

@[expose] public section

noncomputable section

namespace Cert.Proof.Math

open Idealize.ShloMosaic

/-- The number both programs use for `2π`. -/
def twoPi : ℝ := 13176795 / 2097152

/-- A state's constant after its first `n` features, as the kernel computes it. -/
def constAt (m l : ℕ → EReal) : ℕ → EReal
  | 0 => ((-(16 * Real.log twoPi) : ℝ) : EReal)
  | n + 1 => constAt m l n - ((1 / 2 : ℝ) : EReal) * m n * m n * Ideal.exp (((-2 : ℝ) : EReal) * l n) - l n

/-- A token's score after its first `n` features, as the kernel computes it from the state's constant `c`. -/
def scoreAt (c : EReal) (m l x : ℕ → EReal) : ℕ → EReal
  | 0 => c
  | n + 1 => scoreAt c m l x n + m n * Ideal.exp (((-2 : ℝ) : EReal) * l n) * x n
      + ((-(1 / 2) : ℝ) : EReal) * Ideal.exp (((-2 : ℝ) : EReal) * l n) * (x n * x n)

/-- One feature's Gaussian log-density, as the reference computes it. -/
def density (m l x : EReal) : EReal :=
  ((-(1 / 2) : ℝ) : EReal) * ((x - m) * Ideal.exp (-l)) * ((x - m) * Ideal.exp (-l)) - l
    - ((1 / 2 : ℝ) : EReal) * ((Real.log twoPi : ℝ) : EReal)

/-! ## Where everything is finite -/

/-- A real number's exponential stays real. -/
theorem exp_real (r : ℝ) : Ideal.exp (r : EReal) = (Real.exp r : EReal) := rfl

/-- The constant of finite means is the constant of the real ones. -/
theorem constAt_real (m l : ℕ → EReal) (M L : ℕ → ℝ) : ∀ N, (∀ n < N, m n = M n) → (∀ n < N, l n = L n) →
    constAt m l N = ((-(16 * Real.log twoPi) - ∑ n ∈ Finset.range N, (1 / 2 * M n * M n * Real.exp (-2 * L n) + L n) : ℝ) : EReal)
  | 0, _, _ => by simp [constAt]
  | N + 1, hm, hl => by
    rw [constAt, constAt_real m l M L N (fun n h => hm n (by omega)) (fun n h => hl n (by omega)), hm N (by omega), hl N (by omega)]
    rw [← EReal.coe_mul (-2), exp_real]
    simp only [← EReal.coe_mul, ← EReal.coe_sub]
    rw [Finset.sum_range_succ]
    congr 1; ring

/-- The score of finite tokens and means is the score of the real ones. -/
theorem scoreAt_real (c : ℝ) (m l x : ℕ → EReal) (M L X : ℕ → ℝ) : ∀ N, (∀ n < N, m n = M n) → (∀ n < N, l n = L n) → (∀ n < N, x n = X n) →
    scoreAt (c : EReal) m l x N
      = ((c + ∑ n ∈ Finset.range N, (M n * Real.exp (-2 * L n) * X n - 1 / 2 * Real.exp (-2 * L n) * (X n * X n)) : ℝ) : EReal)
  | 0, _, _, _ => by simp [scoreAt]
  | N + 1, hm, hl, hx => by
    rw [scoreAt, scoreAt_real c m l x M L X N (fun n h => hm n (by omega)) (fun n h => hl n (by omega)) (fun n h => hx n (by omega)),
      hm N (by omega), hl N (by omega), hx N (by omega)]
    rw [← EReal.coe_mul (-2), exp_real]
    simp only [← EReal.coe_mul, ← EReal.coe_add]
    rw [Finset.sum_range_succ]
    congr 1; ring

/-- A finite feature's log-density is the real one. -/
theorem density_real (m l x : ℝ) : density (m : EReal) l x
    = ((-(1 / 2) * ((x - m) * Real.exp (-l)) * ((x - m) * Real.exp (-l)) - l - 1 / 2 * Real.log twoPi : ℝ) : EReal) := by
  unfold density
  rw [← EReal.coe_neg, exp_real]
  simp only [← EReal.coe_mul, ← EReal.coe_sub]

/-- A sum of real numbers is real. -/
theorem sum_real (f : ℕ → EReal) (g : ℕ → ℝ) : ∀ N, (∀ n < N, f n = g n) → ∑ n ∈ Finset.range N, f n = ((∑ n ∈ Finset.range N, g n : ℝ) : EReal)
  | 0, _ => by simp
  | N + 1, h => by
    rw [Finset.sum_range_succ, Finset.sum_range_succ, sum_real f g N (fun n hn => h n (by omega)), h N (by omega), EReal.coe_add]

/-- The square completed, feature by feature: the kernel's three terms are the reference's one. -/
theorem square (m l x : ℝ) :
    m * Real.exp (-2 * l) * x - 1 / 2 * Real.exp (-2 * l) * (x * x) - (1 / 2 * m * m * Real.exp (-2 * l) + l)
      = -(1 / 2) * ((x - m) * Real.exp (-l)) * ((x - m) * Real.exp (-l)) - l := by
  have e : Real.exp (-2 * l) = Real.exp (-l) * Real.exp (-l) := by rw [← Real.exp_add]; congr 1; ring
  rw [e]; ring

/-! ## Where something is infinite -/

/-- An extended real that is infinite. -/
def Inf (a : EReal) : Prop := a = ⊤ ∨ a = ⊥

theorem real_of_not_inf {a : EReal} (h : ¬ Inf a) : a = (a.toReal : EReal) :=
  (EReal.coe_toReal (fun e => h (.inl e)) (fun e => h (.inr e))).symm

/-- Less than half the square of an infinity, weighted by a positive number, is minus infinity. -/
theorem neg_half_sq {a : EReal} (h : Inf a) : ((-(1 / 2) : ℝ) : EReal) * a * a = ⊥ := by
  rcases h with rfl | rfl
  · rw [EReal.coe_mul_top_of_neg (by norm_num), EReal.bot_mul_top]
  · rw [EReal.coe_mul_bot_of_neg (by norm_num), EReal.top_mul_bot]

/-- An infinite token, or an infinite mean, lies infinitely far from its mean. -/
theorem inf_diff {m x : EReal} (h : Inf m ∨ Inf x) (r : ℝ) (hr : 0 < r) : Inf ((x - m) * (r : EReal)) := by
  have hd : Inf (x - m) := by
    unfold Inf at *
    induction x using EReal.rec <;> induction m using EReal.rec <;> simp_all [sub_eq_add_neg]
  rcases hd with e | e <;> rw [e]
  · exact .inl (EReal.top_mul_coe_of_pos hr)
  · exact .inr (EReal.bot_mul_coe_of_pos hr)

/-- The log-density there is minus infinity. -/
theorem density_bot {m x : EReal} (l : ℝ) (h : Inf m ∨ Inf x) : density m l x = ⊥ := by
  unfold density
  rw [← EReal.coe_neg, exp_real, neg_half_sq (inf_diff h _ (Real.exp_pos _))]
  simp only [sub_eq_add_neg, EReal.bot_add]

/-- A sum with minus infinity among its terms is minus infinity. -/
theorem sum_bot (f : ℕ → EReal) (N n : ℕ) (hn : n < N) (h : f n = ⊥) : ∑ k ∈ Finset.range N, f k = ⊥ := by
  rw [← Finset.add_sum_erase _ f (Finset.mem_range.mpr hn), h, EReal.bot_add]

/-- An infinite mean makes the state's constant minus infinity, -/
theorem constAt_bot (m l : ℕ → EReal) (L : ℕ → ℝ) : ∀ N, (∀ n < N, l n = L n) → (∃ n < N, Inf (m n)) → constAt m l N = ⊥
  | 0, _, ⟨_, h, _⟩ => absurd h (Nat.not_lt_zero _)
  | N + 1, hl, ⟨n, hn, h⟩ => by
    rw [constAt, hl N (by omega), ← EReal.coe_mul (-2), exp_real]
    rcases Nat.lt_succ_iff_lt_or_eq.mp hn with hn | rfl
    · rw [constAt_bot m l L N (fun n h => hl n (by omega)) ⟨n, hn, h⟩]
      simp only [sub_eq_add_neg, EReal.bot_add]
    · have e : ((1 / 2 : ℝ) : EReal) * m n * m n * (Real.exp (-2 * L n) : EReal) = ⊤ := by
        rcases h with e | e <;> rw [e]
        · rw [EReal.coe_mul_top_of_pos (by norm_num), EReal.top_mul_top, EReal.top_mul_coe_of_pos (Real.exp_pos _)]
        · rw [EReal.coe_mul_bot_of_pos (by norm_num), EReal.bot_mul_bot, EReal.top_mul_coe_of_pos (Real.exp_pos _)]
      rw [e]
      simp only [sub_eq_add_neg, EReal.neg_top, EReal.add_bot, EReal.bot_add]

/-- a score that starts there stays there, -/
theorem scoreAt_of_bot (m l x : ℕ → EReal) : ∀ N, scoreAt ⊥ m l x N = ⊥
  | 0 => rfl
  | N + 1 => by rw [scoreAt, scoreAt_of_bot m l x N, EReal.bot_add, EReal.bot_add]

/-- and an infinite token brings it there. -/
theorem scoreAt_bot (c : EReal) (m l x : ℕ → EReal) (L : ℕ → ℝ) : ∀ N, (∀ n < N, l n = L n) → (∃ n < N, Inf (x n)) → scoreAt c m l x N = ⊥
  | 0, _, ⟨_, h, _⟩ => absurd h (Nat.not_lt_zero _)
  | N + 1, hl, ⟨n, hn, h⟩ => by
    rw [scoreAt, hl N (by omega), ← EReal.coe_mul (-2), exp_real]
    rcases Nat.lt_succ_iff_lt_or_eq.mp hn with hn | rfl
    · rw [scoreAt_bot c m l x L N (fun n h => hl n (by omega)) ⟨n, hn, h⟩, EReal.bot_add, EReal.bot_add]
    · have e : ((-(1 / 2) : ℝ) : EReal) * (Real.exp (-2 * L n) : EReal) * (x n * x n) = ⊥ := by
        have neg : -(1 / 2) * Real.exp (-2 * L n) < 0 := mul_neg_of_neg_of_pos (by norm_num) (Real.exp_pos _)
        rw [← EReal.coe_mul]
        rcases h with e | e <;> rw [e]
        · rw [EReal.top_mul_top, EReal.coe_mul_top_of_neg neg]
        · rw [EReal.bot_mul_bot, EReal.coe_mul_top_of_neg neg]
      rw [e, EReal.add_bot]

/-! ## The identity -/

/-- With finite log-scales, the kernel's recursion over the thirty-two features is the sum of the features' log-densities,
    whatever the tokens and means. -/
theorem score_eq (m l x : ℕ → EReal) (hl : ∀ n < 32, ¬ Inf (l n)) :
    scoreAt (constAt m l 32) m l x 32 = ∑ n ∈ Finset.range 32, density (m n) (l n) (x n) := by
  have hL : ∀ n < 32, l n = ((l n).toReal : EReal) := fun n h => real_of_not_inf (hl n h)
  by_cases hM : ∃ n < 32, Inf (m n)
  · rw [constAt_bot m l _ 32 hL hM, scoreAt_of_bot]
    obtain ⟨n, hn, h⟩ := hM
    exact (sum_bot _ 32 n hn (by rw [hL n hn]; exact density_bot _ (.inl h))).symm
  by_cases hX : ∃ n < 32, Inf (x n)
  · rw [scoreAt_bot _ m l x _ 32 hL hX]
    obtain ⟨n, hn, h⟩ := hX
    exact (sum_bot _ 32 n hn (by rw [hL n hn]; exact density_bot _ (.inr h))).symm
  have hM' : ∀ n < 32, m n = ((m n).toReal : EReal) := fun n h => real_of_not_inf fun e => hM ⟨n, h, e⟩
  have hX' : ∀ n < 32, x n = ((x n).toReal : EReal) := fun n h => real_of_not_inf fun e => hX ⟨n, h, e⟩
  rw [constAt_real m l _ _ 32 hM' hL, scoreAt_real _ m l x _ _ _ 32 hM' hL hX',
    sum_real _ (fun n => -(1 / 2) * (((x n).toReal - (m n).toReal) * Real.exp (-(l n).toReal)) * (((x n).toReal - (m n).toReal) * Real.exp (-(l n).toReal))
      - (l n).toReal - 1 / 2 * Real.log twoPi) 32 (fun n h => by
        conv_lhs => rw [hM' n h, hL n h, hX' n h]
        exact density_real _ _ _)]
  congr 1
  simp only [← square, Finset.sum_sub_distrib, Finset.sum_add_distrib, Finset.sum_const, Finset.card_range, nsmul_eq_mul]
  push_cast
  ring

/-! ## The programs' literals -/

theorem bits_neg_two : Ideal.ofBits .f32 0xC0000000#32 = ((-2 : ℝ) : EReal) := by simp [Ideal.ofBits, Ideal.ieee, -EReal.coe_mul]; norm_num
theorem bits_neg_half : Ideal.ofBits .f32 0xBF000000#32 = ((-(1 / 2) : ℝ) : EReal) := by simp [Ideal.ofBits, Ideal.ieee, -EReal.coe_mul]; norm_num
theorem bits_half : Ideal.ofBits .f32 0x3F000000#32 = ((1 / 2 : ℝ) : EReal) := by simp [Ideal.ofBits, Ideal.ieee, -EReal.coe_mul]; norm_num
theorem bits_two_pi : Ideal.ofBits .f32 0x40C90FDB#32 = ((twoPi : ℝ) : EReal) := by
  unfold twoPi; simp [Ideal.ofBits, Ideal.ieee, -EReal.coe_mul]; norm_num
theorem bits_inf : Ideal.ofBits .f32 0x7F800000#32 = ⊤ := by simp [Ideal.ofBits, Ideal.ieee]

/-- The logarithm of the programs' `2π` is the real one. -/
theorem log_two_pi : Ideal.log ((twoPi : ℝ) : EReal) = ((Real.log twoPi : ℝ) : EReal) := by
  show (if twoPi ≤ 0 then (⊥ : EReal) else ((Real.log twoPi : ℝ) : EReal)) = _
  rw [if_neg (by unfold twoPi; norm_num)]

end Cert.Proof.Math

end
-- ==== Proof.Reference.lean ====
/-
  The reference: its run, with the term its operations compose, and that term read at an index.
-/
module

public import proofs.«01_k».proof.Proof.Math
public import proofs.«01_k».proof.Proof.Gen.ReferenceIdeal.Run
public import Idealize.ShloMosaic.Lib.Pointwise

@[expose] public section

noncomputable section

namespace Cert.Proof.Reference

open Cert.ReferenceIdeal Cert.ReferenceIdeal.Gen

open Idealize.ShloMosaic Idealize.ShloMosaic.TcCoe

/-- The term the reference's operations compose, of the tokens, the means and the log-scales. -/
def refTerm {F : FTy → Type} [FloatOps F] (x : S32768x32.Idx → F .f32) (mu ls : S16x32.Idx → F .f32) : S32768x16.Idx → F .f32 :=
  let z : FVec F S32768x16x32 .f32 := mulf
    (subf (broadcastInDim S32768x16x32 ![0, 1, 2] bcast_S32768x1x32_S32768x16x32_0_1_2 (broadcastInDim S32768x1x32 ![0, 2] bcast_S32768x32_S32768x1x32_0_2 x))
      (broadcastInDim S32768x16x32 ![0, 1, 2] bcast_S1x16x32_S32768x16x32_0_1_2 (broadcastInDim S1x16x32 ![1, 2] bcast_S16x32_S1x16x32_1_2 mu)))
    (broadcastInDim S32768x16x32 ![0, 1, 2] bcast_S1x16x32_S32768x16x32_0_1_2 (Host.exp (Host.negf (broadcastInDim S1x16x32 ![1, 2] bcast_S16x32_S1x16x32_1_2 ls))))
  Host.reduceAdd
    (subf
      (subf (mulf (mulf (broadcastInDim S32768x16x32 ![] bcast_S_S32768x16x32 (constant S_ .f32 0xBF000000#32)) z) z)
        (broadcastInDim S32768x16x32 ![0, 1, 2] bcast_S1x16x32_S32768x16x32_0_1_2 (broadcastInDim S1x16x32 ![1, 2] bcast_S16x32_S1x16x32_1_2 ls)))
      (broadcastInDim S32768x16x32 ![] bcast_S_S32768x16x32 (id (mulf (constant S_ .f32 0x3F000000#32) (Host.log (constant S_ .f32 0x40C90FDB#32))))))
    (constant S_ .f32 0x00000000#32) reducesTo_S32768x16x32_S32768x16_d2 h_S_

/-! ## The reference's result -/

/-- The reference's composed term at token `t` and state `k`: the same sum, of its own arguments. -/
theorem ref_read (x : S32768x32.Idx → Ideal .f32) (mu ls : S16x32.Idx → Ideal .f32) (t : Fin 32768) (k : Fin 16) :
    refTerm x mu ls (ix2 t k) = ∑ n : Fin 32, Math.density (mu (ix2 k n)) (ls (ix2 k n)) (x (ix2 t n)) := by
  unfold refTerm
  pointwise
  refine Finset.sum_congr rfl fun n _ => ?_
  rw [Math.density, ← Math.log_two_pi, ← Math.bits_neg_half, ← Math.bits_half, ← Math.bits_two_pi]
  rfl

end Cert.Proof.Reference

end
-- ==== Proof.Result.lean ====
/-
  The value: what the kernel's result array holds over the extended reals, and that it is the reference's result where the
  log-scales are finite.
-/
module

public import proofs.«01_k».proof.Proof.KI.Launch
public import proofs.«01_k».proof.Proof.Math
public import proofs.«01_k».proof.Pre_finite_scales
public import Idealize.ShloMosaic.Lib.Pointwise
public import Idealize.ShloMosaic.Lib.ReduceAll

@[expose] public section

noncomputable section

namespace Cert.Proof.KernelIdeal

open Cert.KernelIdeal Cert.KernelIdeal.Gen

open Idealize.ShloMosaic Idealize.ShloMosaic.StableHlo Idealize.ShloMosaic.TcCoe

/-- The named constant is `-16·log(2π)`, with the programs' `2π`. -/
theorem c0_eq : (c0 : Ideal .f32) = ((-(16 * Real.log Math.twoPi) : ℝ) : EReal) :=
  IdealRules.named_const.ideal_named_scalar _ _ _ _ rfl

/-! ## The kernel's recursions over the extended reals -/

/-- The inverse variance. -/
theorem ivAt_eq (l : Ideal .f32) : ivAt l = Ideal.exp (((-2 : ℝ) : EReal) * l) := by
  rw [← Math.bits_neg_two]; rfl

/-- A state's constant. -/
theorem cAt_eq (m l : ℕ → Ideal .f32) : ∀ n, cAt m l n = Math.constAt m l n
  | 0 => c0_eq
  | n + 1 => by
    rw [Math.constAt, ← cAt_eq m l n, ← ivAt_eq, ← Math.bits_half]; rfl

/-- A token's score, from the linear and the quadratic terms. -/
theorem tokAt_eq (c : Ideal .f32) (m l x : ℕ → Ideal .f32) : ∀ n,
    tokAt c (fun n => FloatOps.mulf (m n) (ivAt (l n))) (fun n => FloatOps.mulf (Scalar.ofBits .f32 0xBF000000#32) (ivAt (l n))) x n = Math.scoreAt c m l x n
  | 0 => rfl
  | n + 1 => by
    rw [Math.scoreAt, ← tokAt_eq c m l x n, ← ivAt_eq, ← Math.bits_neg_half]; rfl

/-- The kernel's scores, with finite log-scales, are the sums of the features' log-densities. -/
theorem scores_eq (x : S1048576.Idx → Ideal .f32) (fm fl : S512.Idx → Ideal .f32) (hl : ∀ j, ¬ Math.Inf (fl j)) (i : S524288.Idx) :
    scores x fm fl i = ∑ n : Fin 32, Math.density (nth pos512 fm (16 * n.val + (i 0).val % 16)) (nth pos512 fl (16 * n.val + (i 0).val % 16))
      (nth pos1048576 x (32 * ((i 0).val / 16) + n.val)) := by
  refine Eq.trans ?_ ((Math.score_eq (fun n => nth pos512 fm (16 * n + (i 0).val % 16)) (fun n => nth pos512 fl (16 * n + (i 0).val % 16))
    (fun n => nth pos1048576 x (32 * ((i 0).val / 16) + n)) fun _ _ => hl _).trans (Finset.sum_range _))
  rw [← cAt_eq, ← tokAt_eq]
  rfl

/-! ## The arrays the call is given -/

variable (m : (ℓ : Loc nD τ sig) → Buf (Elt Ideal) ℓ) (d : Dev nD)

/-- The three argument arrays the result depends on: the tokens, -/
abbrev argX : S32768x32.Idx → Ideal .f32 := m ((d.tc : Thread nD τ).loc main_arg0)
/-- the means, -/
abbrev argM : S16x32.Idx → Ideal .f32 := m ((d.tc : Thread nD τ).loc main_arg2)
/-- and the log-scales. -/
abbrev argL : S16x32.Idx → Ideal .f32 := m ((d.tc : Thread nD τ).loc main_arg3)

/-- The flat tokens are the tokens reshaped, -/
theorem xFlat_eq : xFlat m d = shapeCast S1048576 (argX m d) shapeCasts_S32768x32_S1048576 := by
  refine (reshape_result_ne _ _ _ _ _ _ _ (by decide)).trans ((unary_result_ne _ _ _ _ _ _ (by decide)).trans ?_)
  refine (reshape_result_ne _ _ _ _ _ _ _ (by decide)).trans ((unary_result_ne _ _ _ _ _ _ (by decide)).trans ?_)
  exact (reshape_result ..).trans rfl

/-- the flat means are the means transposed and reshaped, -/
theorem muFlat_eq : muFlat m d = shapeCast S512 (transpose S32x16 [1, 0] (argM m d) transposes_S16x32_S32x16_1_0) shapeCasts_S32x16_S512 := by
  refine (reshape_result_ne _ _ _ _ _ _ _ (by decide)).trans ((unary_result_ne _ _ _ _ _ _ (by decide)).trans ?_)
  refine (reshape_result ..).trans ?_
  rw [unary_result, reshape_result_ne _ _ _ _ _ _ _ (by decide)]; rfl

/-- and so the flat log-scales. -/
theorem lsFlat_eq : lsFlat m d = shapeCast S512 (transpose S32x16 [1, 0] (argL m d) transposes_S16x32_S32x16_1_0) shapeCasts_S32x16_S512 := by
  refine (reshape_result ..).trans ?_
  rw [unary_result, reshape_result_ne _ _ _ _ _ _ _ (by decide), unary_result_ne _ _ _ _ _ _ (by decide), reshape_result_ne _ _ _ _ _ _ _ (by decide)]; rfl

/-- The result array's contents when the run ends. -/
abbrev result : S32768x16.Idx → Ideal .f32 := V3 m d (at' main_v6)

/-- The result is the call's array reshaped. -/
theorem out_eq : result m d = shapeCast S32768x16 (outFlat m d) shapeCasts_S524288_S32768x16 := by
  refine (reshape_result ..).trans ?_
  rw [V2, Function.update_self]; rfl

/-- Feature `n` of token `t` in the flat tokens. -/
theorem x_read (t : Fin 32768) (n : Fin 32) : nth pos1048576 (xFlat m d) (32 * t.val + n.val) = argX m d (ix2 t n) := by
  rw [xFlat_eq]
  have e : ∀ p, nth pos1048576 (shapeCast S1048576 (argX m d) shapeCasts_S32768x32_S1048576) p
      = shapeCast S1048576 (argX m d) shapeCasts_S32768x32_S1048576 (ix1 ⟨p % 1048576, Nat.mod_lt _ (by decide)⟩) := fun p =>
    congrArg (shapeCast S1048576 (argX m d) shapeCasts_S32768x32_S1048576) (eq_ix1 _)
  rw [e]
  pointwise

/-- Feature `n` of state `k` in a flat feature-major table. -/
theorem tab_read (f : S16x32.Idx → Ideal .f32) (k : Fin 16) (n : Fin 32) :
    nth pos512 (shapeCast S512 (transpose S32x16 [1, 0] f transposes_S16x32_S32x16_1_0) shapeCasts_S32x16_S512) (16 * n.val + k.val) = f (ix2 k n) := by
  have e : ∀ p, nth pos512 (shapeCast S512 (transpose S32x16 [1, 0] f transposes_S16x32_S32x16_1_0) shapeCasts_S32x16_S512) p
      = shapeCast S512 (transpose S32x16 [1, 0] f transposes_S16x32_S32x16_1_0) shapeCasts_S32x16_S512 (ix1 ⟨p % 512, Nat.mod_lt _ (by decide)⟩) := fun p =>
    congrArg (shapeCast S512 (transpose S32x16 [1, 0] f transposes_S16x32_S32x16_1_0) shapeCasts_S32x16_S512) (eq_ix1 _)
  rw [e]
  pointwise

/-- The kernel's result at token `t` and state `k`: the sum of the features' log-densities, where the log-scales are finite. -/
theorem out_read (hl : ∀ j, ¬ Math.Inf (argL m d j)) (t : Fin 32768) (k : Fin 16) :
    result m d (ix2 t k) = ∑ n : Fin 32, Math.density (argM m d (ix2 k n)) (argL m d (ix2 k n)) (argX m d (ix2 t n)) := by
  rw [out_eq]
  pointwise
  rw [outFlat, scores_eq _ _ _ (fun j => by rw [lsFlat_eq]; exact hl _)]
  have := t.isLt; have := k.isLt
  refine Finset.sum_congr rfl fun n _ => ?_
  rw [← x_read m d t n, ← tab_read (argM m d) k n, ← tab_read (argL m d) k n, ← muFlat_eq, ← lsFlat_eq]
  simp only [ix1_0]
  rw [show (t.val * 16 + k.val) % 16 = k.val by omega, show (t.val * 16 + k.val) / 16 = t.val by omega]

/-! ## The precondition -/

/-- Where the precondition holds, no log-scale is infinite. -/
theorem scales_finite [Cert.Pre_finite_scales.Facts] (a0 a1 a2) (ls : S16x32.Idx → Ideal .f32) (a4 a5 a6)
    (h : Cert.Pre_finite_scales.fn (F := Ideal) a0 a1 a2 ls a4 a5 a6 = fun _ => 1#1) (j : S16x32.Idx) : ¬ Math.Inf (ls j) := by
  dsimp only [Cert.Pre_finite_scales.fn] at h
  have hj := Host.reduce_andi_all _ _ _ _ _ (congrFun h ix0) j
  have hb : BitVec.ofBool (decide (max (ls j) (-(ls j)) < Ideal.ofBits .f32 0x7F800000#32)) = 1#1 := hj
  rw [Math.bits_inf] at hb
  rintro (e | e) <;> rw [e] at hb <;> simp at hb

end Cert.Proof.KernelIdeal

end
-- ==== Proof.lean ====
/-
  The claim. Kernel and KernelIdeal: the launch's run (Proof/KB/Launch.lean, Proof/KI/Launch.lean) with its values dropped.
  ReferenceIdeal: its run as host operations. preserves: the one named constant's value. algebraic: the kernel's result array
  (Proof/Result.lean) and the reference's (Proof/Reference.lean) are, at every token and state, the same sum over the features;
  the identity between the kernel's way of summing and the reference's is Proof/Math.lean's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_scales
public import proofs.«01_k».proof.Proof.KB.Launch
public import proofs.«01_k».proof.Proof.KI.Launch
public import proofs.«01_k».proof.Proof.Reference
public import proofs.«01_k».proof.Proof.Result

@[expose] public section

noncomputable section

namespace Cert.Proof

open Idealize.ShloMosaic Idealize.SL.Sem

/-- The kernel's bit-level run ends with its arguments unchanged and every semaphore at zero. -/
theorem frame_kernel : Cert.quiescent_Kernel (hKernel := Cert.Kernel.Gen.facts) := fun m g _ => Kernel.frame_run (F := Bits) m g

/-- So does its run over the extended reals. -/
theorem frame_ideal : Cert.quiescent_KernelIdeal (hKernelIdeal := Cert.KernelIdeal.Gen.facts) := fun m g _ => KernelIdeal.frame_run (F := Ideal) m g

/-- The reference's run, over the extended reals, ends with its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The constant's name has its value in the table, and the idealized kernel prints that value. -/
theorem preserves : Cert.preserves_Kernel_KernelIdeal := IdealRules.named_const.statement Cert.KernelIdeal.κ "neg_16_log_two_pi" .f32 0xC1EB3F8E#32 _ rfl

/-- The kernel's result is the reference's term of the same arguments, where every log-scale is finite. -/
theorem result_eq (m : (ℓ : Loc Cert.KernelIdeal.nD Cert.KernelIdeal.τ Cert.KernelIdeal.sig) → Buf (Elt Ideal) ℓ) (d : Dev Cert.KernelIdeal.nD)
    (hl : ∀ j, ¬ Math.Inf (KernelIdeal.argL m d j)) :
    KernelIdeal.result m d = Reference.refTerm (KernelIdeal.argX m d) (KernelIdeal.argM m d) (KernelIdeal.argL m d) := by
  funext j
  rw [eq_ix2 j]
  exact (KernelIdeal.out_read m d hl _ _).trans (Reference.ref_read _ _ _ _ _).symm

/-- From memories that agree on the arguments, where every log-scale is finite, the kernel and the reference end with equal results. -/
theorem algebraic : Cert.algebraic_KernelIdeal_ReferenceIdeal_pre_finite_scales (hKernelIdeal := Cert.KernelIdeal.Gen.facts)
    (hReferenceIdeal := Cert.ReferenceIdeal.Gen.facts) (hPre_finite_scales := Cert.Pre_finite_scales.Gen.facts) := by
  intro m g m' g' hpre hagree
  refine ⟨fun c => KernelIdeal.result m c, ?_, ?_⟩
  · exact (θ_run Cert.KernelIdeal.defs _ _).mono (fun r h c => ⟨h.1 c (KernelIdeal.at' Cert.KernelIdeal.main_v6) (by decide), KernelIdeal.args_of_run m h c⟩) (KernelIdeal.run_main (F := Ideal) m g)
  · refine (θ_run Cert.ReferenceIdeal.defs _ _).mono (fun r h c => ⟨?_, (h c).2⟩) (Cert.ReferenceIdeal.Value.run (F := Ideal) m' g')
    refine (h c).1.trans ?_
    obtain ⟨h0, -, h2, h3, -⟩ := hagree c
    rw [h0, h2, h3]
    exact (result_eq m c fun j => KernelIdeal.scales_finite _ _ _ _ _ _ _ (hpre c) j).symm

/-- All the claims together. -/
theorem claim : Cert.Claim := ⟨Cert.Kernel.Gen.facts, Cert.KernelIdeal.Gen.facts, Cert.ReferenceIdeal.Gen.facts, Cert.Pre_finite_scales.Gen.facts,
  frame_kernel, frame_ideal, fun m g _ => frame_ideal m g trivial, frame_reference, fun m g _ => frame_reference m g trivial, preserves, algebraic⟩

end Cert.Proof

end
